-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_boxes [hPre_unit_boxes : Cert.Pre_unit_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_unit_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_unit_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_unit_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_boxes [hPre_unit_boxes : Cert.Pre_unit_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_unit_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_unit_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_boxes [hKernelIdeal : Cert.KernelIdeal.Facts] [hPre_unit_boxes : Cert.Pre_unit_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_boxes [hReferenceIdeal : Cert.ReferenceIdeal.Facts] [hPre_unit_boxes : Cert.Pre_unit_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unit_boxes [hKernelIdeal : Cert.KernelIdeal.Facts] [hReferenceIdeal : Cert.ReferenceIdeal.Facts] [hPre_unit_boxes : Cert.Pre_unit_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_boxes : Cert.Pre_unit_boxes.Facts),
    quiescent_Kernel (hKernel := hKernel)
    ∧ quiescent_KernelIdeal (hKernelIdeal := hKernelIdeal)
    ∧ quiescent_KernelIdeal_pre_unit_boxes (hKernelIdeal := hKernelIdeal) (hPre_unit_boxes := hPre_unit_boxes)
    ∧ quiescent_ReferenceIdeal (hReferenceIdeal := hReferenceIdeal)
    ∧ quiescent_ReferenceIdeal_pre_unit_boxes (hReferenceIdeal := hReferenceIdeal) (hPre_unit_boxes := hPre_unit_boxes)
    ∧ preserves_Kernel_KernelIdeal
    ∧ algebraic_KernelIdeal_ReferenceIdeal_pre_unit_boxes (hKernelIdeal := hKernelIdeal) (hReferenceIdeal := hReferenceIdeal) (hPre_unit_boxes := hPre_unit_boxes)
-- ==== Pre_unit_boxes.lean ====
abbrev S4x192x64x64 : Shape := ⟨4, ![4, 192, 64, 64]⟩
abbrev S512x5 : Shape := ⟨2, ![512, 5]⟩
abbrev S512x1 : Shape := ⟨2, ![512, 1]⟩
abbrev S512x4 : Shape := ⟨2, ![512, 4]⟩
abbrev S1x192x2x2 : Shape := ⟨4, ![1, 192, 2, 2]⟩
abbrev S192x2x2 : Shape := ⟨3, ![192, 2, 2]⟩
abbrev S_ : Shape := ⟨0, ![]⟩

class Facts : Prop where
  slices_S512x5_S512x1_0_0 : S512x5.Slices ![0, 0] S512x1
  slices_S512x5_S512x4_0_1 : S512x5.Slices ![0, 1] S512x4
  slices_S4x192x64x64_S1x192x2x2_0_0_0_0 : S4x192x64x64.Slices ![0, 0, 0, 0] S1x192x2x2
  shapeCasts_S1x192x2x2_S192x2x2 : S1x192x2x2.ShapeCasts S192x2x2
  bcast_S_S512x1 : S_.BroadcastsInDim S512x1 (![] : Fin 0 → Fin S512x1.rank)
  bcast_S_S512x4 : S_.BroadcastsInDim S512x4 (![] : Fin 0 → Fin S512x4.rank)
  bcast_S_S192x2x2 : S_.BroadcastsInDim S192x2x2 (![] : Fin 0 → Fin S192x2x2.rank)

variable [Facts]

def fn_part1 {F : FTy → Type} [FloatOps F] (main_v8 : IVec S512x1 1) (main_v13 : IVec S512x4 1) (main_v15 : IVec S192x2x2 1) (main_v17 : IVec S192x2x2 1) : IVec S512x1 1 × IVec S512x4 1 × IVec S192x2x2 1 :=
  let main_v18 : IVec S192x2x2 1 := andi main_v15 main_v17
  (main_v8, main_v13, main_v18)

def fn {F : FTy → Type} [FloatOps F] (main_arg0 : FVec F S4x192x64x64 .f32) (main_arg1 : FVec F S512x5 .f32) : IVec S512x1 1 × IVec S512x4 1 × IVec S192x2x2 1 :=
  let main_v0 : FVec F S512x1 .f32 := (extractStridedSlice S512x1 ![0, 0] · slices_S512x5_S512x1_0_0) main_arg1
  let main_v1 : FVec F S512x4 .f32 := (extractStridedSlice S512x4 ![0, 1] · slices_S512x5_S512x4_0_1) main_arg1
  let main_v2 : FVec F S1x192x2x2 .f32 := (extractStridedSlice S1x192x2x2 ![0, 0, 0, 0] · slices_S4x192x64x64_S1x192x2x2_0_0_0_0) main_arg0
  let main_v3 : FVec F S192x2x2 .f32 := shapeCast S192x2x2 main_v2 shapeCasts_S1x192x2x2_S192x2x2
  let main_cst : FVec F S_ .f32 := constant S_ .f32 0xBF800000#32
  let main_v4 : FVec F S512x1 .f32 := broadcastInDim S512x1 ![] bcast_S_S512x1 main_cst
  let main_v5 : IVec S512x1 1 := cmpf .ogt main_v0 main_v4
  let main_cst_0 : FVec F S_ .f32 := constant S_ .f32 0x3F800000#32
  let main_v6 : FVec F S512x1 .f32 := broadcastInDim S512x1 ![] bcast_S_S512x1 main_cst_0
  let main_v7 : IVec S512x1 1 := cmpf .olt main_v0 main_v6
  let main_v8 : IVec S512x1 1 := andi main_v5 main_v7
  let main_cst_1 : FVec F S_ .f32 := constant S_ .f32 0xBF000000#32
  let main_v9 : FVec F S512x4 .f32 := broadcastInDim S512x4 ![] bcast_S_S512x4 main_cst_1
  let main_v10 : IVec S512x4 1 := cmpf .oge main_v1 main_v9
  let main_cst_2 : FVec F S_ .f32 := constant S_ .f32 0x3FC00000#32
  let main_v11 : FVec F S512x4 .f32 := broadcastInDim S512x4 ![] bcast_S_S512x4 main_cst_2
  let main_v12 : IVec S512x4 1 := cmpf .olt main_v1 main_v11
  let main_v13 : IVec S512x4 1 := andi main_v10 main_v12
  let main_cst_3 : FVec F S_ .f32 := constant S_ .f32 0xFF800000#32
  let main_v14 : FVec F S192x2x2 .f32 := broadcastInDim S192x2x2 ![] bcast_S_S192x2x2 main_cst_3
  let main_v15 : IVec S192x2x2 1 := cmpf .ogt main_v3 main_v14
  let main_cst_4 : FVec F S_ .f32 := constant S_ .f32 0x7F800000#32
  let main_v16 : FVec F S192x2x2 .f32 := broadcastInDim S192x2x2 ![] bcast_S_S192x2x2 main_cst_4
  let main_v17 : IVec S192x2x2 1 := cmpf .olt main_v3 main_v16
  fn_part1 (F := F) main_v8 main_v13 main_v15 main_v17
-- ==== Kernel.lean ====
abbrev S4x192x64x64 : Shape := ⟨4, ![4, 192, 64, 64]⟩
abbrev S512x5 : Shape := ⟨2, ![512, 5]⟩
abbrev S1x192x2x2 : Shape := ⟨4, ![1, 192, 2, 2]⟩
abbrev S192x2x2 : Shape := ⟨3, ![192, 2, 2]⟩
abbrev S192x4 : Shape := ⟨2, ![192, 4]⟩
abbrev S5x512 : Shape := ⟨2, ![5, 512]⟩
abbrev S14x14x192x512 : Shape := ⟨4, ![14, 14, 192, 512]⟩
abbrev S1x14x192x512 : Shape := ⟨4, ![1, 14, 192, 512]⟩
abbrev S1x512 : Shape := ⟨2, ![1, 512]⟩
abbrev S512 : Shape := ⟨1, ![512]⟩
abbrev S192x1 : Shape := ⟨2, ![192, 1]⟩
abbrev S192 : Shape := ⟨1, ![192]⟩
abbrev S192x512 : Shape := ⟨2, ![192, 512]⟩
abbrev S1x1x192x512 : Shape := ⟨4, ![1, 1, 192, 512]⟩
abbrev S512x192x14x14 : Shape := ⟨4, ![512, 192, 14, 14]⟩

abbrev nBuf : Space → Nat
  | .hbm => 8
  | .vmem => 4
  | .smem => 0
  | _ => 0

abbrev bufTy : (tb : Table) → Fin (tcTables nBuf tb) → BufTy
  | .hbm, ⟨0, _⟩ => ⟨S4x192x64x64, .f32⟩
  | .hbm, ⟨1, _⟩ => ⟨S512x5, .f32⟩
  | .hbm, ⟨2, _⟩ => ⟨S1x192x2x2, .f32⟩
  | .hbm, ⟨3, _⟩ => ⟨S192x2x2, .f32⟩
  | .hbm, ⟨4, _⟩ => ⟨S192x4, .f32⟩
  | .hbm, ⟨5, _⟩ => ⟨S5x512, .f32⟩
  | .hbm, ⟨6, _⟩ => ⟨S14x14x192x512, .f32⟩
  | .hbm, ⟨7, _⟩ => ⟨S512x192x14x14, .f32⟩
  | .local _ .vmem, ⟨0, _⟩ => ⟨S192x4, .f32⟩
  | .local _ .vmem, ⟨1, _⟩ => ⟨S5x512, .f32⟩
  | .local _ .vmem, ⟨2, _⟩ => ⟨S1x14x192x512, .f32⟩
  | .local _ .vmem, ⟨3, _⟩ => ⟨S1x14x192x512, .f32⟩
  | _, _ => ⟨S4x192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S192x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x14x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x192x64x64 : Shape := ⟨4, ![4, 192, 64, 64]⟩
abbrev S512x5 : Shape := ⟨2, ![512, 5]⟩
abbrev S512x1 : Shape := ⟨2, ![512, 1]⟩
abbrev S512 : Shape := ⟨1, ![512]⟩
abbrev S_ : Shape := ⟨0, ![]⟩
abbrev S14 : Shape := ⟨1, ![14]⟩
abbrev S1x14 : Shape := ⟨2, ![1, 14]⟩
abbrev S512x14 : Shape := ⟨2, ![512, 14]⟩
abbrev S512x14x1 : Shape := ⟨3, ![512, 14, 1]⟩
abbrev S512x1x14 : Shape := ⟨3, ![512, 1, 14]⟩
abbrev S512x14x14 : Shape := ⟨3, ![512, 14, 14]⟩
abbrev S512x1x1 : Shape := ⟨3, ![512, 1, 1]⟩
abbrev S512x14x14x1 : Shape := ⟨4, ![512, 14, 14, 1]⟩
abbrev S512x14x14x3 : Shape := ⟨4, ![512, 14, 14, 3]⟩
abbrev S512x14x14x192 : Shape := ⟨4, ![512, 14, 14, 192]⟩
abbrev S512x192x14x14 : Shape := ⟨4, ![512, 192, 14, 14]⟩

abbrev nBuf : Space → Nat
  | .hbm => 289
  | .vmem => 0
  | .smem => 0
  | _ => 0

abbrev hbmTy0_0 (i : Nat) : BufTy := match i % 128 with
  | 0 => ⟨S4x192x64x64, .f32⟩
  | 1 => ⟨S512x5, .f32⟩
  | 2 => ⟨S512x1, .f32⟩
  | 3 => ⟨S512, .f32⟩
  | 4 => ⟨S512, .i32⟩
  | 5 => ⟨S512x1, .f32⟩
  | 6 => ⟨S512, .f32⟩
  | 7 => ⟨S_, .f32⟩
  | 8 => ⟨S512, .f32⟩
  | 9 => ⟨S512, .f32⟩
  | 10 => ⟨S_, .f32⟩
  | 11 => ⟨S512, .f32⟩
  | 12 => ⟨S512, .f32⟩
  | 13 => ⟨S512x1, .f32⟩
  | 14 => ⟨S512, .f32⟩
  | 15 => ⟨S_, .f32⟩
  | 16 => ⟨S512, .f32⟩
  | 17 => ⟨S512, .f32⟩
  | 18 => ⟨S_, .f32⟩
  | 19 => ⟨S512, .f32⟩
  | 20 => ⟨S512, .f32⟩
  | 21 => ⟨S512x1, .f32⟩
  | 22 => ⟨S512, .f32⟩
  | 23 => ⟨S_, .f32⟩
  | 24 => ⟨S512, .f32⟩
  | 25 => ⟨S512, .f32⟩
  | 26 => ⟨S_, .f32⟩
  | 27 => ⟨S512, .f32⟩
  | 28 => ⟨S512, .f32⟩
  | 29 => ⟨S512x1, .f32⟩
  | 30 => ⟨S512, .f32⟩
  | 31 => ⟨S_, .f32⟩
  | 32 => ⟨S512, .f32⟩
  | 33 => ⟨S512, .f32⟩
  | 34 => ⟨S_, .f32⟩
  | 35 => ⟨S512, .f32⟩
  | 36 => ⟨S512, .f32⟩
  | 37 => ⟨S512, .f32⟩
  | 38 => ⟨S512, .f32⟩
  | 39 => ⟨S_, .f32⟩
  | 40 => ⟨S512, .f32⟩
  | 41 => ⟨S512, .f32⟩
  | 42 => ⟨S_, .f32⟩
  | 43 => ⟨S512, .f32⟩
  | 44 => ⟨S512, .f32⟩
  | 45 => ⟨S14, .f32⟩
  | 46 => ⟨S14, .f32⟩
  | 47 => ⟨S512x1, .f32⟩
  | 48 => ⟨S1x14, .f32⟩
  | 49 => ⟨S_, .f32⟩
  | 50 => ⟨S1x14, .f32⟩
  | 51 => ⟨S1x14, .f32⟩
  | 52 => ⟨S512x1, .f32⟩
  | 53 => ⟨S512x14, .f32⟩
  | 54 => ⟨S512x14, .f32⟩
  | 55 => ⟨S512x14, .f32⟩
  | 56 => ⟨S512x14, .f32⟩
  | 57 => ⟨S512x14, .f32⟩
  | 58 => ⟨S512x1, .f32⟩
  | 59 => ⟨S1x14, .f32⟩
  | 60 => ⟨S_, .f32⟩
  | 61 => ⟨S1x14, .f32⟩
  | 62 => ⟨S1x14, .f32⟩
  | 63 => ⟨S512x1, .f32⟩
  | 64 => ⟨S512x14, .f32⟩
  | 65 => ⟨S512x14, .f32⟩
  | 66 => ⟨S512x14, .f32⟩
  | 67 => ⟨S512x14, .f32⟩
  | 68 => ⟨S512x14, .f32⟩
  | 69 => ⟨S512x14x1, .f32⟩
  | 70 => ⟨S512x1x14, .f32⟩
  | 71 => ⟨S_, .f32⟩
  | 72 => ⟨S512x14x1, .f32⟩
  | 73 => ⟨S512x14x1, .i1⟩
  | 74 => ⟨S_, .f32⟩
  | 75 => ⟨S512x14x1, .f32⟩
  | 76 => ⟨S512x14x1, .i1⟩
  | 77 => ⟨S512x14x1, .i1⟩
  | 78 => ⟨S_, .f32⟩
  | 79 => ⟨S512x14x1, .f32⟩
  | 80 => ⟨S512x14x1, .f32⟩
  | 81 => ⟨S512x14x1, .f32⟩
  | 82 => ⟨S512x14x1, .i32⟩
  | 83 => ⟨S_, .i32⟩
  | 84 => ⟨S512x14x1, .i32⟩
  | 85 => ⟨S512x14x1, .i1⟩
  | 86 => ⟨S_, .i32⟩
  | 87 => ⟨S_, .i32⟩
  | 88 => ⟨S512x14x1, .i32⟩
  | 89 => ⟨S512x14x1, .i32⟩
  | 90 => ⟨S_, .i32⟩
  | 91 => ⟨S512x14x1, .i32⟩
  | 92 => ⟨S512x14x1, .i32⟩
  | 93 => ⟨S_, .i32⟩
  | 94 => ⟨S_, .i32⟩
  | 95 => ⟨S512x14x1, .i32⟩
  | 96 => ⟨S512x14x1, .i32⟩
  | 97 => ⟨S512x14x1, .f32⟩
  | 98 => ⟨S512x14x1, .f32⟩
  | 99 => ⟨S512x14x1, .f32⟩
  | 100 => ⟨S512x14x1, .f32⟩
  | 101 => ⟨S_, .f32⟩
  | 102 => ⟨S512x1x14, .f32⟩
  | 103 => ⟨S512x1x14, .i1⟩
  | 104 => ⟨S_, .f32⟩
  | 105 => ⟨S512x1x14, .f32⟩
  | 106 => ⟨S512x1x14, .i1⟩
  | 107 => ⟨S512x1x14, .i1⟩
  | 108 => ⟨S_, .f32⟩
  | 109 => ⟨S512x1x14, .f32⟩
  | 110 => ⟨S512x1x14, .f32⟩
  | 111 => ⟨S512x1x14, .f32⟩
  | 112 => ⟨S512x1x14, .i32⟩
  | 113 => ⟨S_, .i32⟩
  | 114 => ⟨S512x1x14, .i32⟩
  | 115 => ⟨S512x1x14, .i1⟩
  | 116 => ⟨S_, .i32⟩
  | 117 => ⟨S_, .i32⟩
  | 118 => ⟨S512x1x14, .i32⟩
  | 119 => ⟨S512x1x14, .i32⟩
  | 120 => ⟨S_, .i32⟩
  | 121 => ⟨S512x1x14, .i32⟩
  | 122 => ⟨S512x1x14, .i32⟩
  | 123 => ⟨S_, .i32⟩
  | 124 => ⟨S_, .i32⟩
  | 125 => ⟨S512x1x14, .i32⟩
  | 126 => ⟨S512x1x14, .i32⟩
  | 127 => ⟨S512x1x14, .f32⟩
  | _ => ⟨S4x192x64x64, .f32⟩

abbrev hbmTy0_1 (i : Nat) : BufTy := match i % 128 with
  | 0 => ⟨S512x1x14, .f32⟩
  | 1 => ⟨S512x1x14, .f32⟩
  | 2 => ⟨S512x1x14, .f32⟩
  | 3 => ⟨S512x14x14, .i1⟩
  | 4 => ⟨S512x14x14, .i1⟩
  | 5 => ⟨S512x14x14, .i1⟩
  | 6 => ⟨S512x14x14, .f32⟩
  | 7 => ⟨S_, .f32⟩
  | 8 => ⟨S512x14x1, .f32⟩
  | 9 => ⟨S512x14x1, .f32⟩
  | 10 => ⟨S_, .f32⟩
  | 11 => ⟨S512x1x14, .f32⟩
  | 12 => ⟨S512x1x14, .f32⟩
  | 13 => ⟨S512x1x1, .i32⟩
  | 14 => ⟨S512x14x14, .f32⟩
  | 15 => ⟨S512x14x14, .f32⟩
  | 16 => ⟨S512x14x14, .f32⟩
  | 17 => ⟨S512x14x14x1, .f32⟩
  | 18 => ⟨S_, .i32⟩
  | 19 => ⟨S512x1x1, .i32⟩
  | 20 => ⟨S512x1x1, .i1⟩
  | 21 => ⟨S_, .i32⟩
  | 22 => ⟨S512x1x1, .i32⟩
  | 23 => ⟨S512x1x1, .i32⟩
  | 24 => ⟨S512x1x1, .i32⟩
  | 25 => ⟨S_, .i32⟩
  | 26 => ⟨S512x14x1, .i32⟩
  | 27 => ⟨S512x14x1, .i1⟩
  | 28 => ⟨S_, .i32⟩
  | 29 => ⟨S512x14x1, .i32⟩
  | 30 => ⟨S512x14x1, .i32⟩
  | 31 => ⟨S512x14x1, .i32⟩
  | 32 => ⟨S_, .i32⟩
  | 33 => ⟨S512x1x14, .i32⟩
  | 34 => ⟨S512x1x14, .i1⟩
  | 35 => ⟨S_, .i32⟩
  | 36 => ⟨S512x1x14, .i32⟩
  | 37 => ⟨S512x1x14, .i32⟩
  | 38 => ⟨S512x1x14, .i32⟩
  | 39 => ⟨S512x14x14, .i32⟩
  | 40 => ⟨S512x14x14, .i32⟩
  | 41 => ⟨S512x14x14, .i32⟩
  | 42 => ⟨S512x14x14x1, .i32⟩
  | 43 => ⟨S512x14x14x1, .i32⟩
  | 44 => ⟨S512x14x14x1, .i32⟩
  | 45 => ⟨S512x14x14x3, .i32⟩
  | 46 => ⟨S512x14x14x192, .f32⟩
  | 47 => ⟨S512x14x14x192, .f32⟩
  | 48 => ⟨S512x14x14x192, .f32⟩
  | 49 => ⟨S512x14x14, .f32⟩
  | 50 => ⟨S512x14x14, .f32⟩
  | 51 => ⟨S512x14x14, .f32⟩
  | 52 => ⟨S512x14x14x1, .f32⟩
  | 53 => ⟨S_, .i32⟩
  | 54 => ⟨S512x1x1, .i32⟩
  | 55 => ⟨S512x1x1, .i1⟩
  | 56 => ⟨S_, .i32⟩
  | 57 => ⟨S512x1x1, .i32⟩
  | 58 => ⟨S512x1x1, .i32⟩
  | 59 => ⟨S512x1x1, .i32⟩
  | 60 => ⟨S_, .i32⟩
  | 61 => ⟨S512x14x1, .i32⟩
  | 62 => ⟨S512x14x1, .i1⟩
  | 63 => ⟨S_, .i32⟩
  | 64 => ⟨S512x14x1, .i32⟩
  | 65 => ⟨S512x14x1, .i32⟩
  | 66 => ⟨S512x14x1, .i32⟩
  | 67 => ⟨S_, .i32⟩
  | 68 => ⟨S512x1x14, .i32⟩
  | 69 => ⟨S512x1x14, .i1⟩
  | 70 => ⟨S_, .i32⟩
  | 71 => ⟨S512x1x14, .i32⟩
  | 72 => ⟨S512x1x14, .i32⟩
  | 73 => ⟨S512x1x14, .i32⟩
  | 74 => ⟨S512x14x14, .i32⟩
  | 75 => ⟨S512x14x14, .i32⟩
  | 76 => ⟨S512x14x14, .i32⟩
  | 77 => ⟨S512x14x14x1, .i32⟩
  | 78 => ⟨S512x14x14x1, .i32⟩
  | 79 => ⟨S512x14x14x1, .i32⟩
  | 80 => ⟨S512x14x14x3, .i32⟩
  | 81 => ⟨S512x14x14x192, .f32⟩
  | 82 => ⟨S512x14x14x192, .f32⟩
  | 83 => ⟨S512x14x14x192, .f32⟩
  | 84 => ⟨S512x14x14x192, .f32⟩
  | 85 => ⟨S512x14x14, .f32⟩
  | 86 => ⟨S512x14x14, .f32⟩
  | 87 => ⟨S512x14x14, .f32⟩
  | 88 => ⟨S512x14x14x1, .f32⟩
  | 89 => ⟨S_, .i32⟩
  | 90 => ⟨S512x1x1, .i32⟩
  | 91 => ⟨S512x1x1, .i1⟩
  | 92 => ⟨S_, .i32⟩
  | 93 => ⟨S512x1x1, .i32⟩
  | 94 => ⟨S512x1x1, .i32⟩
  | 95 => ⟨S512x1x1, .i32⟩
  | 96 => ⟨S_, .i32⟩
  | 97 => ⟨S512x14x1, .i32⟩
  | 98 => ⟨S512x14x1, .i1⟩
  | 99 => ⟨S_, .i32⟩
  | 100 => ⟨S512x14x1, .i32⟩
  | 101 => ⟨S512x14x1, .i32⟩
  | 102 => ⟨S512x14x1, .i32⟩
  | 103 => ⟨S_, .i32⟩
  | 104 => ⟨S512x1x14, .i32⟩
  | 105 => ⟨S512x1x14, .i1⟩
  | 106 => ⟨S_, .i32⟩
  | 107 => ⟨S512x1x14, .i32⟩
  | 108 => ⟨S512x1x14, .i32⟩
  | 109 => ⟨S512x1x14, .i32⟩
  | 110 => ⟨S512x14x14, .i32⟩
  | 111 => ⟨S512x14x14, .i32⟩
  | 112 => ⟨S512x14x14, .i32⟩
  | 113 => ⟨S512x14x14x1, .i32⟩
  | 114 => ⟨S512x14x14x1, .i32⟩
  | 115 => ⟨S512x14x14x1, .i32⟩
  | 116 => ⟨S512x14x14x3, .i32⟩
  | 117 => ⟨S512x14x14x192, .f32⟩
  | 118 => ⟨S512x14x14x192, .f32⟩
  | 119 => ⟨S512x14x14x192, .f32⟩
  | 120 => ⟨S512x14x14x192, .f32⟩
  | 121 => ⟨S512x14x14, .f32⟩
  | 122 => ⟨S512x14x14, .f32⟩
  | 123 => ⟨S512x14x14, .f32⟩
  | 124 => ⟨S512x14x14x1, .f32⟩
  | 125 => ⟨S_, .i32⟩
  | 126 => ⟨S512x1x1, .i32⟩
  | 127 => ⟨S512x1x1, .i1⟩
  | _ => ⟨S4x192x64x64, .f32⟩

abbrev hbmTy0_2 (i : Nat) : BufTy := match i % 128 with
  | 0 => ⟨S_, .i32⟩
  | 1 => ⟨S512x1x1, .i32⟩
  | 2 => ⟨S512x1x1, .i32⟩
  | 3 => ⟨S512x1x1, .i32⟩
  | 4 => ⟨S_, .i32⟩
  | 5 => ⟨S512x14x1, .i32⟩
  | 6 => ⟨S512x14x1, .i1⟩
  | 7 => ⟨S_, .i32⟩
  | 8 => ⟨S512x14x1, .i32⟩
  | 9 => ⟨S512x14x1, .i32⟩
  | 10 => ⟨S512x14x1, .i32⟩
  | 11 => ⟨S_, .i32⟩
  | 12 => ⟨S512x1x14, .i32⟩
  | 13 => ⟨S512x1x14, .i1⟩
  | 14 => ⟨S_, .i32⟩
  | 15 => ⟨S512x1x14, .i32⟩
  | 16 => ⟨S512x1x14, .i32⟩
  | 17 => ⟨S512x1x14, .i32⟩
  | 18 => ⟨S512x14x14, .i32⟩
  | 19 => ⟨S512x14x14, .i32⟩
  | 20 => ⟨S512x14x14, .i32⟩
  | 21 => ⟨S512x14x14x1, .i32⟩
  | 22 => ⟨S512x14x14x1, .i32⟩
  | 23 => ⟨S512x14x14x1, .i32⟩
  | 24 => ⟨S512x14x14x3, .i32⟩
  | 25 => ⟨S512x14x14x192, .f32⟩
  | 26 => ⟨S512x14x14x192, .f32⟩
  | 27 => ⟨S512x14x14x192, .f32⟩
  | 28 => ⟨S512x14x14x192, .f32⟩
  | 29 => ⟨S512x14x14x1, .f32⟩
  | 30 => ⟨S512x14x14x192, .f32⟩
  | 31 => ⟨S512x14x14x192, .f32⟩
  | 32 => ⟨S512x192x14x14, .f32⟩
  | _ => ⟨S4x192x64x64, .f32⟩

abbrev hbmTy (i : Nat) : BufTy := match i / 128 with
  | 0 => hbmTy0_0 i
  | 1 => hbmTy0_1 i
  | 2 => hbmTy0_2 i
  | _ => ⟨S4x192x64x64, .f32⟩

abbrev bufTy : (tb : Table) → Fin (tcTables nBuf tb) → BufTy
  | .hbm, ⟨i, _⟩ => hbmTy i
  | _, _ => ⟨S4x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_10 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_11 : Ref sig .tc := ⟨.hbm, 71, rfl⟩
abbrev main_v57 : Ref sig .tc := ⟨.hbm, 72, rfl⟩
abbrev main_v58 : Ref sig .tc := ⟨.hbm, 73, rfl⟩
abbrev main_cst_12 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_13 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c : Ref sig .tc := ⟨.hbm, 83, rfl⟩
abbrev main_v66 : Ref sig .tc := ⟨.hbm, 84, rfl⟩
abbrev main_v67 : Ref sig .tc := ⟨.hbm, 85, rfl⟩
abbrev main_c_14 : Ref sig .tc := ⟨.hbm, 86, rfl⟩
abbrev main_call0_v0 : Ref sig .tc := ⟨.hbm, 87, rfl⟩
abbrev main_call0_v1 : Ref sig .tc := ⟨.hbm, 88, rfl⟩
abbrev main_v68 : Ref sig .tc := ⟨.hbm, 89, rfl⟩
abbrev main_c_15 : Ref sig .tc := ⟨.hbm, 90, rfl⟩
abbrev main_v69 : Ref sig .tc := ⟨.hbm, 91, rfl⟩
abbrev main_v70 : Ref sig .tc := ⟨.hbm, 92, rfl⟩
abbrev main_c_16 : Ref sig .tc := ⟨.hbm, 93, rfl⟩
abbrev main_call1_v0 : Ref sig .tc := ⟨.hbm, 94, rfl⟩
abbrev main_call1_v1 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_cst_18 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_20 : Ref sig .tc := ⟨.hbm, 113, rfl⟩
abbrev main_v85 : Ref sig .tc := ⟨.hbm, 114, rfl⟩
abbrev main_v86 : Ref sig .tc := ⟨.hbm, 115, rfl⟩
abbrev main_c_21 : Ref sig .tc := ⟨.hbm, 116, rfl⟩
abbrev main_call3_v0 : Ref sig .tc := ⟨.hbm, 117, rfl⟩
abbrev main_call3_v1 : Ref sig .tc := ⟨.hbm, 118, rfl⟩
abbrev main_v87 : Ref sig .tc := ⟨.hbm, 119, rfl⟩
abbrev main_c_22 : Ref sig .tc := ⟨.hbm, 120, rfl⟩
abbrev main_v88 : Ref sig .tc := ⟨.hbm, 121, rfl⟩
abbrev main_v89 : Ref sig .tc := ⟨.hbm, 122, rfl⟩
abbrev main_c_23 : Ref sig .tc := ⟨.hbm, 123, rfl⟩
abbrev main_call4_v0 : Ref sig .tc := ⟨.hbm, 124, rfl⟩
abbrev main_call4_v1 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_24 : Ref sig .tc := ⟨.hbm, 135, rfl⟩
abbrev main_v99 : Ref sig .tc := ⟨.hbm, 136, rfl⟩
abbrev main_v100 : Ref sig .tc := ⟨.hbm, 137, rfl⟩
abbrev main_cst_25 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_26 : Ref sig .tc := ⟨.hbm, 146, rfl⟩
abbrev main_v108 : Ref sig .tc := ⟨.hbm, 147, rfl⟩
abbrev main_v109 : Ref sig .tc := ⟨.hbm, 148, rfl⟩
abbrev main_c_27 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_28 : Ref sig .tc := ⟨.hbm, 153, rfl⟩
abbrev main_v113 : Ref sig .tc := ⟨.hbm, 154, rfl⟩
abbrev main_v114 : Ref sig .tc := ⟨.hbm, 155, rfl⟩
abbrev main_c_29 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_30 : Ref sig .tc := ⟨.hbm, 160, rfl⟩
abbrev main_v118 : Ref sig .tc := ⟨.hbm, 161, rfl⟩
abbrev main_v119 : Ref sig .tc := ⟨.hbm, 162, rfl⟩
abbrev main_c_31 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_c_32 : Ref sig .tc := ⟨.hbm, 181, rfl⟩
abbrev main_v137 : Ref sig .tc := ⟨.hbm, 182, rfl⟩
abbrev main_v138 : Ref sig .tc := ⟨.hbm, 183, rfl⟩
abbrev main_c_33 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_c_34 : Ref sig .tc := ⟨.hbm, 188, rfl⟩
abbrev main_v142 : Ref sig .tc := ⟨.hbm, 189, rfl⟩
abbrev main_v143 : Ref sig .tc := ⟨.hbm, 190, rfl⟩
abbrev main_c_35 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_c_36 : Ref sig .tc := ⟨.hbm, 195, rfl⟩
abbrev main_v147 : Ref sig .tc := ⟨.hbm, 196, rfl⟩
abbrev main_v148 : Ref sig .tc := ⟨.hbm, 197, rfl⟩
abbrev main_c_37 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_38 : Ref sig .tc := ⟨.hbm, 217, rfl⟩
abbrev main_v167 : Ref sig .tc := ⟨.hbm, 218, rfl⟩
abbrev main_v168 : Ref sig .tc := ⟨.hbm, 219, rfl⟩
abbrev main_c_39 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_c_40 : Ref sig .tc := ⟨.hbm, 224, rfl⟩
abbrev main_v172 : Ref sig .tc := ⟨.hbm, 225, rfl⟩
abbrev main_v173 : Ref sig .tc := ⟨.hbm, 226, rfl⟩
abbrev main_c_41 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_c_42 : Ref sig .tc := ⟨.hbm, 231, rfl⟩
abbrev main_v177 : Ref sig .tc := ⟨.hbm, 232, rfl⟩
abbrev main_v178 : Ref sig .tc := ⟨.hbm, 233, rfl⟩
abbrev main_c_43 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_c_44 : Ref sig .tc := ⟨.hbm, 253, rfl⟩
abbrev main_v197 : Ref sig .tc := ⟨.hbm, 254, rfl⟩
abbrev main_v198 : Ref sig .tc := ⟨.hbm, 255, rfl⟩
abbrev main_c_45 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_c_46 : Ref sig .tc := ⟨.hbm, 260, rfl⟩
abbrev main_v202 : Ref sig .tc := ⟨.hbm, 261, rfl⟩
abbrev main_v203 : Ref sig .tc := ⟨.hbm, 262, rfl⟩
abbrev main_c_47 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_c_48 : Ref sig .tc := ⟨.hbm, 267, rfl⟩
abbrev main_v207 : Ref sig .tc := ⟨.hbm, 268, rfl⟩
abbrev main_v208 : Ref sig .tc := ⟨.hbm, 269, rfl⟩
abbrev main_c_49 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩

abbrev nD : Nat := 1
abbrev τ : Topo := Topo.v7x

variable {F : FTy → Type} [FloatOps F]
-- ==== Proof.Sampling.lean ====
/-
  The arithmetic of one pooled value, over the real numbers, and the values of the float words that the two programs use.

  A box's corner coordinates lie in [-1/2, 3/2) here.  After the half-pixel shift each sample point of the box is a convex
  combination of the two shifted corners, so it lies in [-1, 1); clamped below at zero it lies in [0, 1), which is where the
  bilinear weights come from.
-/
module

public import Idealize.ShloMosaic.Lib.Pointwise
public import Idealize.ShloMosaic.Lib.IdealHost

@[expose] public section

noncomputable section

namespace Cert.Roi

open Idealize.ShloMosaic

/-! ## The float words -/

/-- The word of 0.5 denotes that real number. -/
theorem word_half : Ideal.ofBits .f32 0x3F000000#32 = ((1 / 2 : ℝ) : EReal) := by
  simp [Ideal.ofBits, Ideal.ieee, -EReal.coe_mul, -EReal.coe_neg]; norm_num

/-- The word of -0.5 denotes that real number. -/
theorem word_neg_half : Ideal.ofBits .f32 0xBF000000#32 = ((-(1 / 2) : ℝ) : EReal) := by
  simp [Ideal.ofBits, Ideal.ieee, -EReal.coe_mul, -EReal.coe_neg]; norm_num

/-- The word of -1.0 denotes that real number. -/
theorem word_neg_one : Ideal.ofBits .f32 0xBF800000#32 = ((-1 : ℝ) : EReal) := by
  simp [Ideal.ofBits, Ideal.ieee, -EReal.coe_mul, -EReal.coe_neg]; norm_num

/-- The word of 14.0 denotes that real number. -/
theorem word_fourteen : Ideal.ofBits .f32 0x41600000#32 = ((14 : ℝ) : EReal) := by
  simp [Ideal.ofBits, Ideal.ieee, -EReal.coe_mul, -EReal.coe_neg]; norm_num

/-- The word of 64.0 denotes that real number. -/
theorem word_sixtyfour : Ideal.ofBits .f32 0x42800000#32 = ((64 : ℝ) : EReal) := by
  simp [Ideal.ofBits, Ideal.ieee, -EReal.coe_mul, -EReal.coe_neg]; norm_num

/-- The word of 1.5 denotes that real number. -/
theorem word_column1 : Ideal.ofBits .f32 0x3FC00000#32 = ((3 / 2 : ℝ) : EReal) := by
  simp [Ideal.ofBits, Ideal.ieee, -EReal.coe_mul, -EReal.coe_neg]; norm_num

/-- The word of 2.5 denotes that real number. -/
theorem word_column2 : Ideal.ofBits .f32 0x40200000#32 = ((5 / 2 : ℝ) : EReal) := by
  simp [Ideal.ofBits, Ideal.ieee, -EReal.coe_mul, -EReal.coe_neg]; norm_num

/-- The word of 3.5 denotes that real number. -/
theorem word_column3 : Ideal.ofBits .f32 0x40600000#32 = ((7 / 2 : ℝ) : EReal) := by
  simp [Ideal.ofBits, Ideal.ieee, -EReal.coe_mul, -EReal.coe_neg]; norm_num

/-- The word of 4.5 denotes that real number. -/
theorem word_column4 : Ideal.ofBits .f32 0x40900000#32 = ((9 / 2 : ℝ) : EReal) := by
  simp [Ideal.ofBits, Ideal.ieee, -EReal.coe_mul, -EReal.coe_neg]; norm_num

/-- The word of 5.5 denotes that real number. -/
theorem word_column5 : Ideal.ofBits .f32 0x40B00000#32 = ((11 / 2 : ℝ) : EReal) := by
  simp [Ideal.ofBits, Ideal.ieee, -EReal.coe_mul, -EReal.coe_neg]; norm_num

/-- The word of 6.5 denotes that real number. -/
theorem word_column6 : Ideal.ofBits .f32 0x40D00000#32 = ((13 / 2 : ℝ) : EReal) := by
  simp [Ideal.ofBits, Ideal.ieee, -EReal.coe_mul, -EReal.coe_neg]; norm_num

/-- The word of 7.5 denotes that real number. -/
theorem word_column7 : Ideal.ofBits .f32 0x40F00000#32 = ((15 / 2 : ℝ) : EReal) := by
  simp [Ideal.ofBits, Ideal.ieee, -EReal.coe_mul, -EReal.coe_neg]; norm_num

/-- The word of 8.5 denotes that real number. -/
theorem word_column8 : Ideal.ofBits .f32 0x41080000#32 = ((17 / 2 : ℝ) : EReal) := by
  simp [Ideal.ofBits, Ideal.ieee, -EReal.coe_mul, -EReal.coe_neg]; norm_num

/-- The word of 9.5 denotes that real number. -/
theorem word_column9 : Ideal.ofBits .f32 0x41180000#32 = ((19 / 2 : ℝ) : EReal) := by
  simp [Ideal.ofBits, Ideal.ieee, -EReal.coe_mul, -EReal.coe_neg]; norm_num

/-- The word of 10.5 denotes that real number. -/
theorem word_column10 : Ideal.ofBits .f32 0x41280000#32 = ((21 / 2 : ℝ) : EReal) := by
  simp [Ideal.ofBits, Ideal.ieee, -EReal.coe_mul, -EReal.coe_neg]; norm_num

/-- The word of 11.5 denotes that real number. -/
theorem word_column11 : Ideal.ofBits .f32 0x41380000#32 = ((23 / 2 : ℝ) : EReal) := by
  simp [Ideal.ofBits, Ideal.ieee, -EReal.coe_mul, -EReal.coe_neg]; norm_num

/-- The word of 12.5 denotes that real number. -/
theorem word_column12 : Ideal.ofBits .f32 0x41480000#32 = ((25 / 2 : ℝ) : EReal) := by
  simp [Ideal.ofBits, Ideal.ieee, -EReal.coe_mul, -EReal.coe_neg]; norm_num

/-- The word of 13.5 denotes that real number. -/
theorem word_column13 : Ideal.ofBits .f32 0x41580000#32 = ((27 / 2 : ℝ) : EReal) := by
  simp [Ideal.ofBits, Ideal.ieee, -EReal.coe_mul, -EReal.coe_neg]; norm_num

/-- The word of minus infinity denotes the least extended real. -/
theorem word_neg_inf : Ideal.ofBits .f32 0xFF800000#32 = ⊥ := by
  simp [Ideal.ofBits, Ideal.ieee]

/-- The word of infinity denotes the greatest extended real. -/
theorem word_inf : Ideal.ofBits .f32 0x7F800000#32 = ⊤ := by
  simp [Ideal.ofBits, Ideal.ieee]

/-! ## One axis of one box -/

/-- The `k`-th of fourteen sample points on an axis where the box reaches from `lo` to `hi`: both ends moved by half a pixel,
    the middle of the `k`-th of fourteen equal bins. -/
def sample (lo hi : ℝ) (k : ℕ) : ℝ := (lo - 1 / 2) + ((k : ℝ) + 1 / 2) * (((hi - 1 / 2) - (lo - 1 / 2)) / 14)

/-- The bilinear weight of the upper pixel at that sample point: the point, clamped below at zero. -/
def weight (lo hi : ℝ) (k : ℕ) : ℝ := max (sample lo hi k) 0

/-- Sample points of a box whose ends lie in `[-1/2, 3/2)` are at least minus one. -/
theorem neg_one_le_sample {lo hi : ℝ} (hlo : -(1 / 2) ≤ lo) (hhi : -(1 / 2) ≤ hi) {k : ℕ} (hk : k < 14) : -1 ≤ sample lo hi k := by
  have h1 : (k : ℝ) ≤ 13 := by exact_mod_cast Nat.le_of_lt_succ hk
  have h0 : (0 : ℝ) ≤ k := Nat.cast_nonneg k
  unfold sample
  nlinarith [mul_nonneg h0 (by linarith : (0 : ℝ) ≤ hi + 1 / 2), mul_nonneg (by linarith : (0 : ℝ) ≤ 13 - (k : ℝ)) (by linarith : (0 : ℝ) ≤ lo + 1 / 2)]

/-- Sample points of a box whose ends lie in `[-1/2, 3/2)` are below one. -/
theorem sample_lt_one {lo hi : ℝ} (hlo : lo < 3 / 2) (hhi : hi < 3 / 2) {k : ℕ} (hk : k < 14) : sample lo hi k < 1 := by
  have h1 : (k : ℝ) ≤ 13 := by exact_mod_cast Nat.le_of_lt_succ hk
  have h0 : (0 : ℝ) ≤ k := Nat.cast_nonneg k
  unfold sample
  nlinarith [mul_nonneg h0 (by linarith : (0 : ℝ) ≤ 3 / 2 - hi), mul_nonneg (by linarith : (0 : ℝ) ≤ 13 - (k : ℝ)) (by linarith : (0 : ℝ) ≤ 3 / 2 - lo)]

/-- The upper weight is not negative. -/
theorem weight_nonneg (lo hi : ℝ) (k : ℕ) : 0 ≤ weight lo hi k := le_max_right _ _

/-- The upper weight of a box whose ends are below `3/2` is below one. -/
theorem weight_lt_one {lo hi : ℝ} (hlo : lo < 3 / 2) (hhi : hi < 3 / 2) {k : ℕ} (hk : k < 14) : weight lo hi k < 1 :=
  max_lt (sample_lt_one hlo hhi hk) one_pos

/-! ## One pooled value -/

/-- The bilinear blend of four pixels, `p00` and `p01` on the upper row, `p10` and `p11` on the lower, with vertical weight
    `y` and horizontal weight `x`. -/
def blend (p00 p01 p10 p11 y x : ℝ) : ℝ :=
  (1 - y) * (1 - x) * p00 + (1 - y) * x * p01 + y * (1 - x) * p10 + y * x * p11

/-- Blending the two rows first and then stepping along the blended row gives the bilinear blend. -/
theorem rows_then_step (p00 p01 p10 p11 y x : ℝ) :
    (p00 * (1 - y) + p10 * y) + ((p01 * (1 - y) + p11 * y) - (p00 * (1 - y) + p10 * y)) * x = blend p00 p01 p10 p11 y x := by
  unfold blend; ring

/-- The pooled value of box `n`, channel `c`, bin row `r` and bin column `w`, from the two-by-two corner of pixels `f` of every
    channel and the boxes `b`, whose components are an image number, the left, upper, right and lower ends. -/
def pooled (f : Fin 192 → Fin 2 → Fin 2 → ℝ) (b : Fin 512 → Fin 5 → ℝ) (n : Fin 512) (c : Fin 192) (r w : Fin 14) : ℝ :=
  blend (f c 0 0) (f c 0 1) (f c 1 0) (f c 1 1) (weight (b n 2) (b n 4) r.val) (weight (b n 1) (b n 3) w.val)

/-- The larger of two reals, as extended reals. -/
theorem coe_max (a b : ℝ) : max (a : EReal) (b : EReal) = ((max a b : ℝ) : EReal) := (EReal.coe_strictMono.monotone.map_max).symm

/-- The larger of a real and zero, as extended reals. -/
theorem coe_max_zero (a : ℝ) : max (a : EReal) 0 = ((max a 0 : ℝ) : EReal) := coe_max a 0

/-- A real divided by fourteen, as extended reals. -/
theorem div_fourteen (a : ℝ) : Ideal.div (a : EReal) ((14 : ℝ) : EReal) = ((a / 14 : ℝ) : EReal) := by
  rw [Ideal.div_coe (by norm_num), ← EReal.coe_mul]; congr 1; ring

end Cert.Roi

end
-- ==== Proof.Precondition.lean ====
/-
  What the precondition says, element by element.

  It asks that every box names the first image, that the ends of every box lie in [-1/2, 3/2), and that the two-by-two pixel
  corner of the first image is finite.
-/
module

public import proofs.«01_k».proof.Proof.Sampling
public import proofs.«01_k».proof.Pre_unit_boxes
public import Idealize.ShloMosaic.Lib.WordCmp

@[expose] public section

set_option maxRecDepth 16384

noncomputable section

namespace Cert.Roi.Pre

open Idealize.ShloMosaic
open Cert.Pre_unit_boxes

/-- The shape relations that the precondition's operations take. -/
theorem facts : Cert.Pre_unit_boxes.Facts where
  slices_S512x5_S512x1_0_0 := by decide
  slices_S512x5_S512x4_0_1 := by decide
  slices_S4x192x64x64_S1x192x2x2_0_0_0_0 := by decide
  shapeCasts_S1x192x2x2_S192x2x2 := by decide
  bcast_S_S512x1 := by decide
  bcast_S_S512x4 := by decide
  bcast_S_S192x2x2 := by decide

/-- Two truth bits whose conjunction is one are both true. -/
theorem both {p q : Prop} [Decidable p] [Decidable q]
    (h : IntOp.andi (BitVec.ofBool (decide p)) (BitVec.ofBool (decide q)) = 1#1) : p ∧ q := by
  by_cases hp : p <;> by_cases hq : q <;> simp_all [IntOp.andi]

variable [Cert.Pre_unit_boxes.Facts] {feat : FVec Ideal S4x192x64x64 .f32} {rois : FVec Ideal S512x5 .f32}

/-- Every box's image number lies strictly between minus one and one. -/
theorem image_range (h : (fn (F := Ideal) feat rois).1 = fun _ => 1#1) (n : Fin 512) :
    ((-1 : ℝ) : EReal) < rois (ix2 n 0) ∧ rois (ix2 n 0) < ((1 : ℝ) : EReal) := by
  have h' := congrFun h (ix2 n 0)
  unfold fn fn_part1 at h'
  pointwise [word_neg_one] at h'
  exact both h'

/-- The four ends of every box lie in `[-1/2, 3/2)`. -/
theorem end_range (h : (fn (F := Ideal) feat rois).2.1 = fun _ => 1#1) (n : Fin 512) (q : Fin 4) :
    ((-(1 / 2) : ℝ) : EReal) ≤ rois (ix2 n q.succ) ∧ rois (ix2 n q.succ) < ((3 / 2 : ℝ) : EReal) := by
  have h' := congrFun h (ix2 n q)
  unfold fn fn_part1 at h'
  pointwise [word_neg_half, word_column1] at h'
  rw [show q.succ = ⟨1 + q.val, by omega⟩ from Fin.ext (Nat.add_comm _ _)]
  exact both h'

/-- The corner pixels are neither of the infinities. -/
theorem pixel_range (h : (fn (F := Ideal) feat rois).2.2 = fun _ => 1#1) (c : Fin 192) (y x : Fin 2) :
    ⊥ < feat (ix4 0 c (Fin.castLE (by decide) y) (Fin.castLE (by decide) x))
      ∧ feat (ix4 0 c (Fin.castLE (by decide) y) (Fin.castLE (by decide) x)) < ⊤ := by
  have h' := congrFun h (ix3 c y x)
  unfold fn fn_part1 at h'
  pointwise [word_neg_inf, word_inf] at h'
  exact both h'

/-- Real boxes in the range that the precondition allows: image number, left, upper, right and lower end of each. -/
structure InRange (b : Fin 512 → Fin 5 → ℝ) : Prop where
  image : ∀ n, -1 < b n 0 ∧ b n 0 < 1
  ends : ∀ n (q : Fin 4), -(1 / 2) ≤ b n q.succ ∧ b n q.succ < 3 / 2

/-- Under the precondition the boxes are real numbers, in range. -/
theorem real_boxes (h0 : (fn (F := Ideal) feat rois).1 = fun _ => 1#1) (h1 : (fn (F := Ideal) feat rois).2.1 = fun _ => 1#1) :
    ∃ b : Fin 512 → Fin 5 → ℝ, (∀ n q, rois (ix2 n q) = ((b n q : ℝ) : EReal)) ∧ InRange b := by
  have hr : ∀ n q, rois (ix2 n q) = (((rois (ix2 n q)).toReal : ℝ) : EReal) := fun n q => by
    refine (EReal.coe_toReal ?_ ?_).symm
    · refine Fin.cases ?_ (fun q => ?_) q
      · exact (lt_trans (image_range h0 n).2 (EReal.coe_lt_top _)).ne
      · exact (lt_trans (end_range h1 n q).2 (EReal.coe_lt_top _)).ne
    · refine Fin.cases ?_ (fun q => ?_) q
      · exact (lt_trans (EReal.bot_lt_coe _) (image_range h0 n).1).ne'
      · exact (lt_of_lt_of_le (EReal.bot_lt_coe _) (end_range h1 n q).1).ne'
  refine ⟨fun n q => (rois (ix2 n q)).toReal, hr, fun n => ?_, fun n q => ?_⟩
  · have h := image_range h0 n
    rw [hr] at h
    exact ⟨EReal.coe_lt_coe_iff.mp h.1, EReal.coe_lt_coe_iff.mp h.2⟩
  · have h := end_range h1 n q
    rw [hr] at h
    exact ⟨EReal.coe_le_coe_iff.mp h.1, EReal.coe_lt_coe_iff.mp h.2⟩

/-- Under the precondition the corner pixels are real numbers. -/
theorem real_pixels (h : (fn (F := Ideal) feat rois).2.2 = fun _ => 1#1) :
    ∃ f : Fin 192 → Fin 2 → Fin 2 → ℝ, ∀ (c : Fin 192) (y x : Fin 2),
      feat (ix4 0 c (Fin.castLE (by decide) y) (Fin.castLE (by decide) x)) = ((f c y x : ℝ) : EReal) :=
  ⟨fun c y x => (feat (ix4 0 c (Fin.castLE (by decide) y) (Fin.castLE (by decide) x))).toReal,
    fun c y x => (EReal.coe_toReal (pixel_range h c y x).2.ne (pixel_range h c y x).1.ne').symm⟩

end Cert.Roi.Pre

end
-- ==== Proof.KernelPoint.lean ====
/-
  What one step of the kernel stores.

  A step handles one row of bins.  It forms the vertical weights of that row for all 512 boxes, blends the two pixel rows with
  them, and then writes fourteen columns, each a step along the blended row by the column's horizontal weight.
-/
module

public import proofs.«01_k».proof.Proof.Sampling
public import proofs.«01_k».proof.Proof.Gen.KernelIdeal.Frame
public import Idealize.ShloMosaic.Lib.Pipeline.ValueKit

@[expose] public section

set_option maxRecDepth 16384

noncomputable section

namespace Cert.Roi.Kernel

open Idealize.ShloMosaic Idealize.ShloMosaic.TcCoe Idealize.SL.Sem
open Cert.KernelIdeal Cert.KernelIdeal.Gen

/-- The row number that a step computes from its grid word is the step's number. -/
theorem step_word : ∀ s : Fin 14, (Scalar.addi (Scalar.muli (BitVec.ofNat 32 s.val) 1#32) 0#32).toInt = (s.val : ℤ) := by
  decide

/-- An index of a stored column is named by its channel and box. -/
theorem stored_index {x : S1x1x192x512.Idx} {c : Fin 192} {n : Fin 512} (hc : c.val = (x 2).val) (hn : n.val = (x 3).val) :
    x = ix4 0 0 c n := by
  obtain ⟨u, v, c', n', rfl⟩ : ∃ u v c' n', x = ix4 u v c' n' := ⟨_, _, _, _, eq_ix4 x⟩
  obtain rfl : c = c' := Fin.ext hc
  obtain rfl : n = n' := Fin.ext hn
  rw [Subsingleton.elim u 0, Subsingleton.elim v 0]

/-! ## The fourteen horizontal weights -/

/-- Column 0: the horizontal weights, from the boxes. -/
theorem column0 {x1 : FVec Ideal S5x512 .f32} {n : Fin 512} {lo hi : ℝ}
    (hlo : x1 (ix2 1 n) = (lo : EReal)) (hhi : x1 (ix2 3 n) = (hi : EReal)) :
    k0_pay12 (F := Ideal) x1 (ix1 n) = ((weight lo hi 0 : ℝ) : EReal) := by
  unfold_payloads
  pointwise [hlo, hhi, word_half, word_fourteen]
  simp only [← EReal.coe_sub, ← EReal.coe_mul, ← EReal.coe_add, div_fourteen, coe_max_zero]
  unfold weight sample; norm_num

/-- Column 1: the horizontal weights, from the boxes. -/
theorem column1 {x1 : FVec Ideal S5x512 .f32} {n : Fin 512} {lo hi : ℝ}
    (hlo : x1 (ix2 1 n) = (lo : EReal)) (hhi : x1 (ix2 3 n) = (hi : EReal)) :
    k0_pay13 (F := Ideal) x1 (ix1 n) = ((weight lo hi 1 : ℝ) : EReal) := by
  unfold_payloads
  pointwise [hlo, hhi, word_half, word_fourteen, word_column1]
  simp only [← EReal.coe_sub, ← EReal.coe_mul, ← EReal.coe_add, div_fourteen, coe_max_zero]
  unfold weight sample; norm_num

/-- Column 2: the horizontal weights, from the boxes. -/
theorem column2 {x1 : FVec Ideal S5x512 .f32} {n : Fin 512} {lo hi : ℝ}
    (hlo : x1 (ix2 1 n) = (lo : EReal)) (hhi : x1 (ix2 3 n) = (hi : EReal)) :
    k0_pay14 (F := Ideal) x1 (ix1 n) = ((weight lo hi 2 : ℝ) : EReal) := by
  unfold_payloads
  pointwise [hlo, hhi, word_half, word_fourteen, word_column2]
  simp only [← EReal.coe_sub, ← EReal.coe_mul, ← EReal.coe_add, div_fourteen, coe_max_zero]
  unfold weight sample; norm_num

/-- Column 3: the horizontal weights, from the shifted left ends and the bin widths. -/
theorem column3 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay15 (F := Ideal) v6 v21 (ix1 n) = ((weight lo hi 3 : ℝ) : EReal) := by
  unfold_payloads
  pointwise [h6, h21, word_column3]
  rw [← EReal.coe_mul, ← EReal.coe_add, coe_max_zero]
  unfold weight sample; norm_num

/-- Column 4: the horizontal weights, from the shifted left ends and the bin widths. -/
theorem column4 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay16 (F := Ideal) v6 v21 (ix1 n) = ((weight lo hi 4 : ℝ) : EReal) := by
  unfold_payloads
  pointwise [h6, h21, word_column4]
  rw [← EReal.coe_mul, ← EReal.coe_add, coe_max_zero]
  unfold weight sample; norm_num

/-- Column 5: the horizontal weights, from the shifted left ends and the bin widths. -/
theorem column5 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay17 (F := Ideal) v6 v21 (ix1 n) = ((weight lo hi 5 : ℝ) : EReal) := by
  unfold_payloads
  pointwise [h6, h21, word_column5]
  rw [← EReal.coe_mul, ← EReal.coe_add, coe_max_zero]
  unfold weight sample; norm_num

/-- Column 6: the horizontal weights, from the shifted left ends and the bin widths. -/
theorem column6 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay18 (F := Ideal) v6 v21 (ix1 n) = ((weight lo hi 6 : ℝ) : EReal) := by
  unfold_payloads
  pointwise [h6, h21, word_column6]
  rw [← EReal.coe_mul, ← EReal.coe_add, coe_max_zero]
  unfold weight sample; norm_num

/-- Column 7: the horizontal weights, from the shifted left ends and the bin widths. -/
theorem column7 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay19 (F := Ideal) v6 v21 (ix1 n) = ((weight lo hi 7 : ℝ) : EReal) := by
  unfold_payloads
  pointwise [h6, h21, word_column7]
  rw [← EReal.coe_mul, ← EReal.coe_add, coe_max_zero]
  unfold weight sample; norm_num

/-- Column 8: the horizontal weights, from the shifted left ends and the bin widths. -/
theorem column8 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay20 (F := Ideal) v6 v21 (ix1 n) = ((weight lo hi 8 : ℝ) : EReal) := by
  unfold_payloads
  pointwise [h6, h21, word_column8]
  rw [← EReal.coe_mul, ← EReal.coe_add, coe_max_zero]
  unfold weight sample; norm_num

/-- Column 9: the horizontal weights, from the shifted left ends and the bin widths. -/
theorem column9 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay21 (F := Ideal) v6 v21 (ix1 n) = ((weight lo hi 9 : ℝ) : EReal) := by
  unfold_payloads
  pointwise [h6, h21, word_column9]
  rw [← EReal.coe_mul, ← EReal.coe_add, coe_max_zero]
  unfold weight sample; norm_num

/-- Column 10: the horizontal weights, from the shifted left ends and the bin widths. -/
theorem column10 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay22 (F := Ideal) v6 v21 (ix1 n) = ((weight lo hi 10 : ℝ) : EReal) := by
  unfold_payloads
  pointwise [h6, h21, word_column10]
  rw [← EReal.coe_mul, ← EReal.coe_add, coe_max_zero]
  unfold weight sample; norm_num

/-- Column 11: the horizontal weights, from the shifted left ends and the bin widths. -/
theorem column11 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay24 (F := Ideal) (k0_pay23 v6 v21) (ix1 n) = ((weight lo hi 11 : ℝ) : EReal) := by
  unfold_payloads
  pointwise [h6, h21, word_column11]
  rw [← EReal.coe_mul, ← EReal.coe_add, coe_max_zero]
  unfold weight sample; norm_num

/-- Column 12: the horizontal weights, from the shifted left ends and the bin widths. -/
theorem column12 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay25 (F := Ideal) v6 v21 (ix1 n) = ((weight lo hi 12 : ℝ) : EReal) := by
  unfold_payloads
  pointwise [h6, h21, word_column12]
  rw [← EReal.coe_mul, ← EReal.coe_add, coe_max_zero]
  unfold weight sample; norm_num

/-- Column 13: the horizontal weights, from the shifted left ends and the bin widths. -/
theorem column13 {v6 v21 : FVec Ideal S512 .f32} {n : Fin 512} {lo hi : ℝ} (h6 : v6 (ix1 n) = ((lo - 1 / 2 : ℝ) : EReal))
    (h21 : v21 (ix1 n) = ((((hi - 1 / 2) - (lo - 1 / 2)) / 14 : ℝ) : EReal)) :
    k0_pay26 (F := Ideal) v6 v21 (ix1 n) = ((weight lo hi 13 : ℝ) : EReal) := by
  unfold_payloads
  pointwise [h6, h21, word_column13]
  rw [← EReal.coe_mul, ← EReal.coe_add, coe_max_zero]
  unfold weight sample; norm_num

/-! ## The blended rows -/

variable {i : grid0.Coords} {x0 : FVec Ideal S192x4 .f32} {x1 : FVec Ideal S5x512 .f32}
  {p : Fin 192 → Fin 4 → ℝ} {b : Fin 512 → Fin 5 → ℝ}

/-- The shifted left end of each box. -/
theorem left_at (hb : ∀ n q, x1 (ix2 q n) = ((b n q : ℝ) : EReal)) (n : Fin 512) :
    k0_pay44 (F := Ideal) i x0 x1 (ix1 n) = ((b n 1 - 1 / 2 : ℝ) : EReal) := by
  unfold_payloads
  pointwise [hb, word_half]
  rw [← EReal.coe_sub]

/-- The bin width of each box. -/
theorem width_at (hb : ∀ n q, x1 (ix2 q n) = ((b n q : ℝ) : EReal)) (n : Fin 512) :
    k0_pay46 (F := Ideal) i x0 x1 (ix1 n) = ((((b n 3 - 1 / 2) - (b n 1 - 1 / 2)) / 14 : ℝ) : EReal) := by
  unfold_payloads
  pointwise [hb, word_half, word_fourteen]
  rw [← EReal.coe_sub, ← EReal.coe_sub, ← EReal.coe_sub, div_fourteen]

/-- The two left pixels, blended with the vertical weights. -/
theorem leftRow_at (hp : ∀ c q, x0 (ix2 c q) = ((p c q : ℝ) : EReal)) (hb : ∀ n q, x1 (ix2 q n) = ((b n q : ℝ) : EReal))
    (c : Fin 192) (n : Fin 512) :
    k0_pay49 (F := Ideal) i x0 x1 (ix2 c n)
      = ((p c 0 * (1 - weight (b n 2) (b n 4) (i 0).val) + p c 2 * weight (b n 2) (b n 4) (i 0).val : ℝ) : EReal) := by
  unfold_payloads
  pointwise [hp, hb, word_half, word_fourteen]
  rw [step_word (i 0)]
  simp only [← EReal.coe_sub, ← EReal.coe_add, ← EReal.coe_mul, div_fourteen, coe_max_zero, ← EReal.coe_one]
  rfl

/-- The upper right pixel times its vertical weight. -/
theorem upperRight_at (hp : ∀ c q, x0 (ix2 c q) = ((p c q : ℝ) : EReal)) (hb : ∀ n q, x1 (ix2 q n) = ((b n q : ℝ) : EReal))
    (c : Fin 192) (n : Fin 512) :
    k0_pay50 (F := Ideal) i x0 x1 (ix2 c n) = ((p c 1 * (1 - weight (b n 2) (b n 4) (i 0).val) : ℝ) : EReal) := by
  unfold_payloads
  pointwise [hp, hb, word_half, word_fourteen]
  rw [step_word (i 0)]
  simp only [← EReal.coe_sub, ← EReal.coe_add, ← EReal.coe_mul, div_fourteen, coe_max_zero, ← EReal.coe_one]
  rfl

/-- The lower right pixel times its vertical weight. -/
theorem lowerRight_at (hp : ∀ c q, x0 (ix2 c q) = ((p c q : ℝ) : EReal)) (hb : ∀ n q, x1 (ix2 q n) = ((b n q : ℝ) : EReal))
    (c : Fin 192) (n : Fin 512) :
    k0_pay51 (F := Ideal) i x0 x1 (ix2 c n) = ((p c 3 * weight (b n 2) (b n 4) (i 0).val : ℝ) : EReal) := by
  unfold_payloads
  pointwise [hp, hb, word_half, word_fourteen]
  rw [step_word (i 0)]
  simp only [← EReal.coe_sub, ← EReal.coe_add, ← EReal.coe_mul, div_fourteen, coe_max_zero, ← EReal.coe_one]
  rfl

/-- The difference of the blended right and left pixels. -/
theorem slope_at (hp : ∀ c q, x0 (ix2 c q) = ((p c q : ℝ) : EReal)) (hb : ∀ n q, x1 (ix2 q n) = ((b n q : ℝ) : EReal))
    (c : Fin 192) (n : Fin 512) :
    k0_pay52 (F := Ideal) i x0 x1 (ix2 c n)
      = (((p c 1 * (1 - weight (b n 2) (b n 4) (i 0).val) + p c 3 * weight (b n 2) (b n 4) (i 0).val)
          - (p c 0 * (1 - weight (b n 2) (b n 4) (i 0).val) + p c 2 * weight (b n 2) (b n 4) (i 0).val) : ℝ) : EReal) := by
  unfold k0_pay52 k0_pay32
  pointwise [leftRow_at (i := i) hp hb, upperRight_at (i := i) hp hb, lowerRight_at (i := i) hp hb]
  rw [← EReal.coe_add, ← EReal.coe_sub]

/-! ## The step -/

/-- A step stores, at column `w`, channel `c` and box `n`, the bilinear blend of the channel's four pixels with the vertical
    weight of the step's row and the horizontal weight of the column. -/
theorem out_at (hp : ∀ c q, x0 (ix2 c q) = ((p c q : ℝ) : EReal)) (hb : ∀ n q, x1 (ix2 q n) = ((b n q : ℝ) : EReal))
    (w : Fin 14) (c : Fin 192) (n : Fin 512) :
    out0_2 (F := Ideal) i x0 x1 (ix4 0 w c n)
      = ((blend (p c 0) (p c 1) (p c 2) (p c 3) (weight (b n 2) (b n 4) (i 0).val) (weight (b n 1) (b n 3) w.val) : ℝ) : EReal) := by
  have h49 := leftRow_at (i := i) hp hb
  have h52 := slope_at (i := i) hp hb
  have h52' : ∀ c n, k0_pay32 (k0_pay49 (F := Ideal) i x0 x1) (k0_pay50 i x0 x1) (k0_pay51 i x0 x1) (ix2 c n) = _ := h52
  have hl := left_at (i := i) (x0 := x0) hb
  have hw := width_at (i := i) (x0 := x0) hb
  unfold out0_2
  obtain ⟨y, hy⟩ : ∃ y : S1x14x192x512.Idx, y = ix4 0 w c n := ⟨_, rfl⟩
  rw [← hy]
  canon_tiles x h
  case piece0 =>
    subst hy
    obtain rfl : x = ix4 0 0 c n := stored_index h2 h3
    obtain rfl : w = 13 := Fin.ext (by have := h1; simp at this; omega)
    unfold k0_pay5
    pointwise [h49, h52, column13 (hl n) (hw n)]
    rw [← EReal.coe_mul, ← EReal.coe_add, rows_then_step]
  case piece1 =>
    subst hy
    obtain rfl : x = ix4 0 0 c n := stored_index h2 h3
    obtain rfl : w = 12 := Fin.ext (by have := h1; simp at this; omega)
    unfold k0_pay4
    pointwise [h49, h52, column12 (hl n) (hw n)]
    rw [← EReal.coe_mul, ← EReal.coe_add, rows_then_step]
  case piece2 =>
    subst hy
    obtain rfl : x = ix4 0 0 c n := stored_index h2 h3
    obtain rfl : w = 11 := Fin.ext (by have := h1; simp at this; omega)
    unfold k0_pay3
    pointwise [h49, h52, column11 (hl n) (hw n)]
    rw [← EReal.coe_mul, ← EReal.coe_add, rows_then_step]
  case piece3 =>
    subst hy
    obtain rfl : x = ix4 0 0 c n := stored_index h2 h3
    obtain rfl : w = 10 := Fin.ext (by have := h1; simp at this; omega)
    unfold k0_pay2
    pointwise [h49, h52, column10 (hl n) (hw n)]
    rw [← EReal.coe_mul, ← EReal.coe_add, rows_then_step]
  case piece4 =>
    subst hy
    obtain rfl : x = ix4 0 0 c n := stored_index h2 h3
    obtain rfl : w = 9 := Fin.ext (by have := h1; simp at this; omega)
    unfold k0_pay1 k0_pay43
    pointwise [h49, h52, column9 (hl n) (hw n)]
    rw [← EReal.coe_mul, ← EReal.coe_add, rows_then_step]
  case piece5 =>
    subst hy
    obtain rfl : x = ix4 0 0 c n := stored_index h2 h3
    obtain rfl : w = 8 := Fin.ext (by have := h1; simp at this; omega)
    unfold k0_pay42
    pointwise [h49, h52, column8 (hl n) (hw n)]
    rw [← EReal.coe_mul, ← EReal.coe_add, rows_then_step]
  case piece6 =>
    subst hy
    obtain rfl : x = ix4 0 0 c n := stored_index h2 h3
    obtain rfl : w = 7 := Fin.ext (by have := h1; simp at this; omega)
    unfold k0_pay41
    pointwise [h49, h52, column7 (hl n) (hw n)]
    rw [← EReal.coe_mul, ← EReal.coe_add, rows_then_step]
  case piece7 =>
    subst hy
    obtain rfl : x = ix4 0 0 c n := stored_index h2 h3
    obtain rfl : w = 6 := Fin.ext (by have := h1; simp at this; omega)
    unfold k0_pay40
    pointwise [h49, h52, column6 (hl n) (hw n)]
    rw [← EReal.coe_mul, ← EReal.coe_add, rows_then_step]
  case piece8 =>
    subst hy
    obtain rfl : x = ix4 0 0 c n := stored_index h2 h3
    obtain rfl : w = 5 := Fin.ext (by have := h1; simp at this; omega)
    unfold k0_pay39
    pointwise [h49, h52, column5 (hl n) (hw n)]
    rw [← EReal.coe_mul, ← EReal.coe_add, rows_then_step]
  case piece9 =>
    subst hy
    obtain rfl : x = ix4 0 0 c n := stored_index h2 h3
    obtain rfl : w = 4 := Fin.ext (by have := h1; simp at this; omega)
    unfold k0_pay38 k0_pay37
    pointwise [h49, h52', column4 (hl n) (hw n)]
    rw [← EReal.coe_mul, ← EReal.coe_add, rows_then_step]
  case piece10 =>
    subst hy
    obtain rfl : x = ix4 0 0 c n := stored_index h2 h3
    obtain rfl : w = 3 := Fin.ext (by have := h1; simp at this; omega)
    unfold k0_pay36
    pointwise [h49, h52', column3 (hl n) (hw n)]
    rw [← EReal.coe_mul, ← EReal.coe_add, rows_then_step]
  case piece11 =>
    subst hy
    obtain rfl : x = ix4 0 0 c n := stored_index h2 h3
    obtain rfl : w = 2 := Fin.ext (by have := h1; simp at this; omega)
    unfold k0_pay35
    rw [View.ld_unit_zero (show (![0, 0] : Fin 2 → Nat) = fun _ => 0 from by decide)]
    pointwise [h49, h52', column2 (hb n 1) (hb n 3)]
    rw [← EReal.coe_mul, ← EReal.coe_add, rows_then_step]
  case piece12 =>
    subst hy
    obtain rfl : x = ix4 0 0 c n := stored_index h2 h3
    obtain rfl : w = 1 := Fin.ext (by have := h1; simp at this; omega)
    unfold k0_pay34
    rw [View.ld_unit_zero (show (![0, 0] : Fin 2 → Nat) = fun _ => 0 from by decide)]
    pointwise [h49, h52', column1 (hb n 1) (hb n 3)]
    rw [← EReal.coe_mul, ← EReal.coe_add, rows_then_step]
  case piece13 =>
    subst hy
    obtain rfl : x = ix4 0 0 c n := stored_index h2 h3
    obtain rfl : w = 0 := Fin.ext (by have := h1; simp at this; omega)
    unfold k0_pay33
    rw [View.ld_unit_zero (show (![0, 0] : Fin 2 → Nat) = fun _ => 0 from by decide)]
    pointwise [h49, h52', column0 (hb n 1) (hb n 3)]
    rw [← EReal.coe_mul, ← EReal.coe_add, rows_then_step]

end Cert.Roi.Kernel

end
-- ==== Proof.KernelValue.lean ====
/-
  What the kernel's result array holds at the end.

  The host lines cut the two-by-two pixel corner of the first image out of the features and transpose the boxes; step `r` of
  the grid writes row `r` of the pooled array; the last host line puts the box first.
-/
module

public import proofs.«01_k».proof.Proof.KernelPoint
public import Idealize.ShloMosaic.Lib.Claim

@[expose] public section

set_option maxRecDepth 16384

noncomputable section

namespace Cert.Roi.Kernel

open Idealize.ShloMosaic Idealize.ShloMosaic.TcCoe Idealize.SL.Sem
open Idealize.ShloMosaic.Pipeline (Dat)
open Cert.KernelIdeal Cert.KernelIdeal.Gen

/-- Both inputs are handed over whole at every step; step `r` writes row `r`. -/
theorem idx : ∀ t : Fin cfg0.N, win0_0.index t = ![0, 0] ∧ win0_1.index t = ![0, 0]
    ∧ win0_2.index t = ![(grid0.coords t 0).val, 0, 0, 0] :=
  (by decide +kernel : ∀ t : Fin grid0.N, _)

variable (m : (ℓ : Loc nD τ sig) → Buf (Elt Ideal) ℓ) (d : Dev nD)
  {f : Fin 192 → Fin 2 → Fin 2 → ℝ} {b : Fin 512 → Fin 5 → ℝ}

/-- When the steps begin, the first input holds the pixel corner, flattened. -/
theorem entry_pixels : V m d main_v2 = shapeCast S192x4 (shapeCast S192x2x2 (extractStridedSlice S1x192x2x2 ![0, 0, 0, 0]
    (m ((d : Thread nD τ).loc main_arg0) : FVec Ideal S4x192x64x64 .f32) slices_S4x192x64x64_S1x192x2x2_0_0_0_0)
    shapeCasts_S1x192x2x2_S192x2x2) shapeCasts_S192x2x2_S192x4 := by
  show StableHlo.after hostOps0 _ _ = _
  after_results
  rfl

/-- When the steps begin, the second input holds the boxes, transposed. -/
theorem entry_boxes : V m d main_v3 = transpose S5x512 [1, 0]
    (m ((d : Thread nD τ).loc main_arg1) : FVec Ideal S512x5 .f32) transposes_S512x5_S5x512_1_0 := by
  show StableHlo.after hostOps0 _ _ = _
  after_results

/-- Every step finds the four pixels of each channel in its first input. -/
theorem pixels_at (hf : ∀ (c : Fin 192) (y x : Fin 2), (m ((d : Thread nD τ).loc main_arg0) : FVec Ideal S4x192x64x64 .f32)
      (ix4 0 c (Fin.castLE (by decide) y) (Fin.castLE (by decide) x)) = ((f c y x : ℝ) : EReal))
    (t : Fin cfg0.N) (c : Fin 192) (q : Fin 4) :
    (iblk m d 0 t : FVec Ideal S192x4 .f32) (ix2 c q) = ((![f c 0 0, f c 0 1, f c 1 0, f c 1 1] q : ℝ) : EReal) := by
  blk_simp [iblk, idx t]
  rw [show (win0_0.blk t).view.emb (ix2 c q) = ix2 c q from by blk_ext [idx t], entry_pixels]
  pointwise
  fin_cases q
  · exact hf c 0 0
  · exact hf c 0 1
  · exact hf c 1 0
  · exact hf c 1 1

/-- Every step finds the boxes in its second input. -/
theorem boxes_at (hb : ∀ n q, (m ((d : Thread nD τ).loc main_arg1) : FVec Ideal S512x5 .f32) (ix2 n q) = ((b n q : ℝ) : EReal))
    (t : Fin cfg0.N) (n : Fin 512) (q : Fin 5) :
    (iblk m d 1 t : FVec Ideal S5x512 .f32) (ix2 q n) = ((b n q : ℝ) : EReal) := by
  blk_simp [iblk, idx t]
  rw [show (win0_1.blk t).view.emb (ix2 q n) = ix2 q n from by blk_ext [idx t], entry_boxes]
  pointwise [hb]

theorem array_after (hf : ∀ (c : Fin 192) (y x : Fin 2), (m ((d : Thread nD τ).loc main_arg0) : FVec Ideal S4x192x64x64 .f32)
      (ix4 0 c (Fin.castLE (by decide) y) (Fin.castLE (by decide) x)) = ((f c y x : ℝ) : EReal))
    (hb : ∀ n q, (m ((d : Thread nD τ).loc main_arg1) : FVec Ideal S512x5 .f32) (ix2 n q) = ((b n q : ℝ) : EReal)) :
    (dats m 0 d).arrAt 2 (cfgs 0).N = fun j : S14x14x192x512.Idx => ((pooled f b (j 3) (j 2) (j 0) (j 1) : ℝ) : EReal) := by
  refine (dats m 0 d).arrAt_eq_of_covers 2 _ (by decide +kernel) fun t _ y => ?_
  blk_simp
  rw [after0_2]
  obtain ⟨u, w, c, n, rfl⟩ : ∃ (u : Fin 1) (w : Fin 14) (c : Fin 192) (n : Fin 512), y = ix4 u w c n := ⟨y 0, y 1, y 2, y 3, eq_ix4 y⟩
  obtain rfl : u = 0 := Subsingleton.elim _ _
  rw [show (win0_2.blk t).view.emb (ix4 0 w c n) = ix4 (grid0.coords t 0) w c n from by blk_ext [idx t]]
  exact out_at (pixels_at m d hf t) (boxes_at m d hb t) w c n

/-- What the program leaves in its result: the pooled value of each box, channel, bin row and bin column. -/
theorem result_after (hf : ∀ (c : Fin 192) (y x : Fin 2), (m ((d : Thread nD τ).loc main_arg0) : FVec Ideal S4x192x64x64 .f32)
      (ix4 0 c (Fin.castLE (by decide) y) (Fin.castLE (by decide) x)) = ((f c y x : ℝ) : EReal))
    (hb : ∀ n q, (m ((d : Thread nD τ).loc main_arg1) : FVec Ideal S512x5 .f32) (ix2 n q) = ((b n q : ℝ) : EReal)) :
    Pipeline.afterTail₀ cfgs (dats m) 0 (V0 m) [hostOps1] d main_v5
      = fun j : S512x192x14x14.Idx => ((pooled f b (j 0) (j 1) (j 2) (j 3) : ℝ) : EReal) := by
  unfold Pipeline.afterTail₀
  show StableHlo.after hostOps1 _ _ = _
  after_results
  rw [show Pipeline.withArrays (cfgs 0).spec d (V0 m d) (fun w => (dats m 0 d).arrAt w (cfgs 0).N) (Proc.devRef .tc main_v4)
      = (dats m 0 d).arrAt 2 (cfgs 0).N from Pipeline.withArrays_arr _ launch0.win.arr_inj d _ _ 2, array_after m d hf hb]
  funext j
  pointwise

/-- THE RUN: on every device the program ends with the pooled values in its result and both arguments as they were. -/
theorem run (ρ : Dev nD → PrngReg)
    (f : Dev nD → Fin 192 → Fin 2 → Fin 2 → ℝ) (b : Dev nD → Fin 512 → Fin 5 → ℝ)
    (hf : ∀ (d : Dev nD) (c : Fin 192) (y x : Fin 2), (m ((d : Thread nD τ).loc main_arg0) : FVec Ideal S4x192x64x64 .f32)
      (ix4 0 c (Fin.castLE (by decide) y) (Fin.castLE (by decide) x)) = ((f d c y x : ℝ) : EReal))
    (hb : ∀ d n q, (m ((d : Thread nD τ).loc main_arg1) : FVec Ideal S512x5 .f32) (ix2 n q) = ((b d n q : ℝ) : EReal)) :
    θ_run defs (onTc (τ := τ) (main (F := Ideal))) ⟨m, fun _ => 0, ρ⟩ (fun r => ∀ d : Dev nD,
      r.2.mem ((d.tc : Thread nD τ).loc main_v5)
          = (fun j : S512x192x14x14.Idx => ((pooled (f d) (b d) (j 0) (j 1) (j 2) (j 3) : ℝ) : EReal))
      ∧ r.2.mem ((d.tc : Thread nD τ).loc main_arg0) = m ((d.tc : Thread nD τ).loc main_arg0)
      ∧ r.2.mem ((d.tc : Thread nD τ).loc main_arg1) = m ((d.tc : Thread nD τ).loc main_arg1)) :=
  (θ_run defs _ _).mono (fun r h d =>
    ⟨((h d).2 main_v5 (Pipeline.mem_restRefs_of main_v5 (by decide) (by decide))).trans (result_after m d (hf d) (hb d)),
      ((h d).2 main_arg0 (Pipeline.mem_restRefs_of main_arg0 (by decide) (by decide))).trans (W_main_arg0 m (dats m) d),
      ((h d).2 main_arg1 (Pipeline.mem_restRefs_of main_arg1 (by decide) (by decide))).trans (W_main_arg1 m (dats m) d)⟩)
    (run_main m ρ)

end Cert.Roi.Kernel

end
-- ==== Proof.Corner.lean ====
/-
  Reading one pixel: the reference's gather at one output index.

  The gather takes, for every box, bin row and bin column, an image number, a row and a column, and returns all channels there.
-/
module

public import proofs.«01_k».proof.Proof.Gen.ReferenceIdeal
public import Idealize.ShloMosaic.Lib.Pointwise

@[expose] public section

set_option maxRecDepth 16384

noncomputable section

namespace Cert.Roi.Reference

open Idealize.ShloMosaic
open Cert.ReferenceIdeal Cert.ReferenceIdeal.Gen

/-- How the reference's gathers address the features. -/
abbrev pick : GatherDims S4x192x64x64 S512x14x14x3 S512x14x14x192 :=
  gather_S4x192x64x64_S512x14x14x3_S512x14x14x192_3_023_n_n_023_3_119211

/-- Output box `n`, row `r`, column `w`, whatever the channel, takes its `k`-th start coordinate from component `k` of the index
    array there. -/
theorem start_index (n : Fin 512) (r w : Fin 14) (c : Fin 192) (k : Fin 3) :
    pick.siIdx (ix4 n r w c) k = ix4 n r w k := by
  funext b
  match b with
  | ⟨0, _⟩ => rfl
  | ⟨1, _⟩ => rfl
  | ⟨2, _⟩ => rfl
  | ⟨3, _⟩ => rfl

/-- The words zero and one are the numbers they spell. -/
theorem corner_word : ∀ y : Fin 2, (BitVec.ofNat 32 y.val).toInt.toNat = y.val := by decide

/-- Where the index array names image zero, row `y` and column `x` of the two-by-two corner, the gather returns the features
    there, channel by channel. -/
theorem gather_corner {α : Type} (feat : S4x192x64x64.Idx → α) (idx : IVec S512x14x14x3 32) (n : Fin 512) (r w : Fin 14)
    (c : Fin 192) (y x : Fin 2) (h0 : idx (ix4 n r w 0) = 0#32) (h1 : idx (ix4 n r w 1) = BitVec.ofNat 32 y.val)
    (h2 : idx (ix4 n r w 2) = BitVec.ofNat 32 x.val) :
    Host.gather pick feat idx (ix4 n r w c) = feat (ix4 0 c (Fin.castLE (by decide) y) (Fin.castLE (by decide) x)) := by
  unfold Host.gather
  refine congrArg feat (funext fun a => Fin.ext ?_)
  match a with
  | ⟨0, _⟩ =>
    show min (idx (pick.siIdx (ix4 n r w c) (0 : Fin 3))).toInt.toNat 3 + 0 + 0 = 0
    rw [start_index, h0]; rfl
  | ⟨1, _⟩ =>
    show 0 + 0 + c.val = c.val
    omega
  | ⟨2, _⟩ =>
    show min (idx (pick.siIdx (ix4 n r w c) (1 : Fin 3))).toInt.toNat 63 + 0 + 0 = y.val
    rw [start_index, h1, corner_word]; omega
  | ⟨3, _⟩ =>
    show min (idx (pick.siIdx (ix4 n r w c) (2 : Fin 3))).toInt.toNat 63 + 0 + 0 = x.val
    rw [start_index, h2, corner_word]; omega

end Cert.Roi.Reference

end
-- ==== Proof.ReferenceAxis.lean ====
/-
  What the reference computes on each axis: the sample points, the two pixels next to each and their weights.

  With the boxes in range the clamped sample points lie in [0, 1), so the two pixels are always pixel zero and pixel one and the
  weight of pixel one is the sample point itself.
-/
module

public import proofs.«01_k».proof.Proof.Precondition
public import proofs.«01_k».proof.Proof.Gen.ReferenceIdeal.Run
public import Idealize.ShloMosaic.Lib.Tactic.CleanTypes

@[expose] public section

set_option maxRecDepth 16384

noncomputable section

namespace Cert.Roi.Reference

open Idealize.ShloMosaic Idealize.ShloMosaic.TcCoe Idealize.SL.Sem
open Cert.ReferenceIdeal Cert.ReferenceIdeal.Gen Cert.ReferenceIdeal.Value
open Cert.Roi.Pre (InRange)

/-! ## Conversions -/

/-- A bin's number, converted to a float. -/
theorem bin_number (k : Fin 14) : FloatOps.sitofp (F := Ideal) FTy.f32 (BitVec.ofNat 32 k.val) = (((k.val : ℕ) : ℝ) : EReal) := by
  have h : ∀ k : Fin 14, (BitVec.ofNat 32 k.val).toInt = (k.val : ℤ) := by decide
  show (((BitVec.ofNat 32 k.val).toInt : ℝ) : EReal) = _
  rw [h]; norm_num

/-- A real strictly between minus one and one converts to the word zero. -/
theorem image_word {a : ℝ} (h0 : -1 < a) (h1 : a < 1) :
    FloatOps.fptosi (F := Ideal) (φ := .f32) 32 (a : EReal) = 0#32 := by
  show Ideal.fptosi 32 (a : EReal) = 0#32
  have h : (if 0 ≤ a then ⌊a⌋ else ⌈a⌉) = 0 := by
    split
    · exact Int.floor_eq_zero_iff.mpr ⟨by assumption, h1⟩
    · exact Int.ceil_eq_zero_iff.mpr ⟨h0, by linarith⟩
  simp [Ideal.fptosi, Ideal.toIntClamped_coe, h]

/-- The floor of a real in `[0, 1)` converts to the word zero. -/
theorem floor_word {a : ℝ} (h0 : 0 ≤ a) (h1 : a < 1) :
    FloatOps.fptosi (F := Ideal) (φ := .f32) 32 (Ideal.liftRound Int.floor (a : EReal)) = 0#32 := by
  have hf : ⌊a⌋ = 0 := Int.floor_eq_zero_iff.mpr ⟨h0, h1⟩
  rw [Ideal.liftRound_coe, hf]
  exact image_word (by norm_num) (by norm_num)

/-- Taking away the word zero, converted to a float, changes nothing. -/
theorem minus_zero_word (a : ℝ) : (a : EReal) - FloatOps.sitofp (F := Ideal) FTy.f32 0#32 = (a : EReal) := by
  show (a : EReal) - ((((0#32 : BitVec 32).toInt : ℤ) : ℝ) : EReal) = _
  rw [← EReal.coe_sub]; simp

variable {V0 : Valuation τ sig (Elt Ideal)} {b : Fin 512 → Fin 5 → ℝ}

/-! ## The vertical axis -/

/-- The shifted upper end of each box. -/
theorem row_start_at (hb : ∀ n q, (V0 (Proc.devRef .tc main_arg1) : FVec Ideal S512x5 .f32) (ix2 n q) = ((b n q : ℝ) : EReal)) (n : Fin 512) :
    (res_main_v14 V0 : FVec Ideal S512 .f32) (ix1 n) = ((b n 2 - 1 / 2 : ℝ) : EReal) := by
  unfold res_main_v14
  clean_types
  pointwise [hb, word_half]
  rw [← EReal.coe_sub]

/-- The vertical sample points. -/
theorem row_sample_at (hb : ∀ n q, (V0 (Proc.devRef .tc main_arg1) : FVec Ideal S512x5 .f32) (ix2 n q) = ((b n q : ℝ) : EReal)) (n : Fin 512) (r : Fin 14) :
    (res_main_v55 V0 : FVec Ideal S512x14x1 .f32) (ix3 n r 0) = ((sample (b n 2) (b n 4) r.val : ℝ) : EReal) := by
  unfold res_main_v55
  clean_types
  pointwise [hb, row_start_at hb, word_half, word_fourteen, bin_number]
  simp only [← EReal.coe_sub, ← EReal.coe_add, ← EReal.coe_mul, div_fourteen]
  rfl

/-- The clamped vertical sample points: the weights of the lower pixels. -/
theorem row_clamped_at (hb : ∀ n q, (V0 (Proc.devRef .tc main_arg1) : FVec Ideal S512x5 .f32) (ix2 n q) = ((b n q : ℝ) : EReal)) (n : Fin 512) (r : Fin 14) :
    (res_main_v63 V0 : FVec Ideal S512x14x1 .f32) (ix3 n r 0) = ((weight (b n 2) (b n 4) r.val : ℝ) : EReal) := by
  unfold res_main_v63
  clean_types
  pointwise [row_sample_at hb]
  rw [coe_max_zero]
  rfl

/-- The upper pixel before clipping is pixel zero. -/
theorem row_floor_at (hb : ∀ n q, (V0 (Proc.devRef .tc main_arg1) : FVec Ideal S512x5 .f32) (ix2 n q) = ((b n q : ℝ) : EReal)) (hr : InRange b) (n : Fin 512) (r : Fin 14) :
    (res_main_v65 V0 : IVec S512x14x1 32) (ix3 n r 0) = 0#32 := by
  unfold res_main_v65
  clean_types
  pointwise [row_clamped_at hb]
  exact floor_word (weight_nonneg _ _ _) (weight_lt_one (hr.ends n 1).2 (hr.ends n 3).2 r.isLt)

/-- The upper pixel is pixel zero. -/
theorem row_low_at (hb : ∀ n q, (V0 (Proc.devRef .tc main_arg1) : FVec Ideal S512x5 .f32) (ix2 n q) = ((b n q : ℝ) : EReal)) (hr : InRange b) (n : Fin 512) (r : Fin 14) :
    (res_main_v68 V0 : IVec S512x14x1 32) (ix3 n r 0) = 0#32 := by
  unfold res_main_v68 res_main_v67
  clean_types
  pointwise [row_floor_at hb hr]
  rfl

/-- The lower pixel is pixel one. -/
theorem row_high_at (hb : ∀ n q, (V0 (Proc.devRef .tc main_arg1) : FVec Ideal S512x5 .f32) (ix2 n q) = ((b n q : ℝ) : EReal)) (hr : InRange b) (n : Fin 512) (r : Fin 14) :
    (res_main_v71 V0 : IVec S512x14x1 32) (ix3 n r 0) = 1#32 := by
  unfold res_main_v71 res_main_v67
  clean_types
  pointwise [row_floor_at hb hr, row_low_at hb hr]
  rfl

/-- The weight of the lower pixel. -/
theorem row_weight_at (hb : ∀ n q, (V0 (Proc.devRef .tc main_arg1) : FVec Ideal S512x5 .f32) (ix2 n q) = ((b n q : ℝ) : EReal)) (hr : InRange b) (n : Fin 512) (r : Fin 14) :
    (res_main_v75 V0 : FVec Ideal S512x14x1 .f32) (ix3 n r 0) = ((weight (b n 2) (b n 4) r.val : ℝ) : EReal) := by
  unfold res_main_v75 res_main_v67
  clean_types
  pointwise [row_floor_at hb hr, row_low_at hb hr, row_clamped_at hb]
  exact minus_zero_word _

/-- The weight of the upper pixel. -/
theorem row_rest_at (hb : ∀ n q, (V0 (Proc.devRef .tc main_arg1) : FVec Ideal S512x5 .f32) (ix2 n q) = ((b n q : ℝ) : EReal)) (hr : InRange b) (n : Fin 512) (r : Fin 14) :
    (res_main_v100 V0 : FVec Ideal S512x14x1 .f32) (ix3 n r 0) = ((1 - weight (b n 2) (b n 4) r.val : ℝ) : EReal) := by
  unfold res_main_v100
  clean_types
  pointwise [row_weight_at hb hr]
  rw [← EReal.coe_one, ← EReal.coe_sub]

/-! ## The horizontal axis -/

/-- The shifted left end of each box. -/
theorem col_start_at (hb : ∀ n q, (V0 (Proc.devRef .tc main_arg1) : FVec Ideal S512x5 .f32) (ix2 n q) = ((b n q : ℝ) : EReal)) (n : Fin 512) :
    (res_main_v8 V0 : FVec Ideal S512 .f32) (ix1 n) = ((b n 1 - 1 / 2 : ℝ) : EReal) := by
  unfold res_main_v8
  clean_types
  pointwise [hb, word_half]
  rw [← EReal.coe_sub]

/-- The horizontal sample points. -/
theorem col_sample_at (hb : ∀ n q, (V0 (Proc.devRef .tc main_arg1) : FVec Ideal S512x5 .f32) (ix2 n q) = ((b n q : ℝ) : EReal)) (n : Fin 512) (w : Fin 14) :
    (res_main_v56 V0 : FVec Ideal S512x1x14 .f32) (ix3 n 0 w) = ((sample (b n 1) (b n 3) w.val : ℝ) : EReal) := by
  unfold res_main_v56
  clean_types
  pointwise [hb, col_start_at hb, word_half, word_fourteen, bin_number]
  simp only [← EReal.coe_sub, ← EReal.coe_add, ← EReal.coe_mul, div_fourteen]
  rfl

/-- The clamped horizontal sample points: the weights of the right pixels. -/
theorem col_clamped_at (hb : ∀ n q, (V0 (Proc.devRef .tc main_arg1) : FVec Ideal S512x5 .f32) (ix2 n q) = ((b n q : ℝ) : EReal)) (n : Fin 512) (w : Fin 14) :
    (res_main_v82 V0 : FVec Ideal S512x1x14 .f32) (ix3 n 0 w) = ((weight (b n 1) (b n 3) w.val : ℝ) : EReal) := by
  unfold res_main_v82
  clean_types
  pointwise [col_sample_at hb]
  rw [coe_max_zero]
  rfl

/-- The left pixel before clipping is pixel zero. -/
theorem col_floor_at (hb : ∀ n q, (V0 (Proc.devRef .tc main_arg1) : FVec Ideal S512x5 .f32) (ix2 n q) = ((b n q : ℝ) : EReal)) (hr : InRange b) (n : Fin 512) (w : Fin 14) :
    (res_main_v84 V0 : IVec S512x1x14 32) (ix3 n 0 w) = 0#32 := by
  unfold res_main_v84
  clean_types
  pointwise [col_clamped_at hb]
  exact floor_word (weight_nonneg _ _ _) (weight_lt_one (hr.ends n 0).2 (hr.ends n 2).2 w.isLt)

/-- The left pixel is pixel zero. -/
theorem col_low_at (hb : ∀ n q, (V0 (Proc.devRef .tc main_arg1) : FVec Ideal S512x5 .f32) (ix2 n q) = ((b n q : ℝ) : EReal)) (hr : InRange b) (n : Fin 512) (w : Fin 14) :
    (res_main_v87 V0 : IVec S512x1x14 32) (ix3 n 0 w) = 0#32 := by
  unfold res_main_v87 res_main_v86
  clean_types
  pointwise [col_floor_at hb hr]
  rfl

/-- The right pixel is pixel one. -/
theorem col_high_at (hb : ∀ n q, (V0 (Proc.devRef .tc main_arg1) : FVec Ideal S512x5 .f32) (ix2 n q) = ((b n q : ℝ) : EReal)) (hr : InRange b) (n : Fin 512) (w : Fin 14) :
    (res_main_v90 V0 : IVec S512x1x14 32) (ix3 n 0 w) = 1#32 := by
  unfold res_main_v90 res_main_v86
  clean_types
  pointwise [col_floor_at hb hr, col_low_at hb hr]
  rfl

/-- The weight of the right pixel. -/
theorem col_weight_at (hb : ∀ n q, (V0 (Proc.devRef .tc main_arg1) : FVec Ideal S512x5 .f32) (ix2 n q) = ((b n q : ℝ) : EReal)) (hr : InRange b) (n : Fin 512) (w : Fin 14) :
    (res_main_v94 V0 : FVec Ideal S512x1x14 .f32) (ix3 n 0 w) = ((weight (b n 1) (b n 3) w.val : ℝ) : EReal) := by
  unfold res_main_v94 res_main_v86
  clean_types
  pointwise [col_floor_at hb hr, col_low_at hb hr, col_clamped_at hb]
  exact minus_zero_word _

/-- The weight of the left pixel. -/
theorem col_rest_at (hb : ∀ n q, (V0 (Proc.devRef .tc main_arg1) : FVec Ideal S512x5 .f32) (ix2 n q) = ((b n q : ℝ) : EReal)) (hr : InRange b) (n : Fin 512) (w : Fin 14) :
    (res_main_v102 V0 : FVec Ideal S512x1x14 .f32) (ix3 n 0 w) = ((1 - weight (b n 1) (b n 3) w.val : ℝ) : EReal) := by
  unfold res_main_v102
  clean_types
  pointwise [col_weight_at hb hr]
  rw [← EReal.coe_one, ← EReal.coe_sub]

/-! ## The image -/

/-- Every box's image is image zero. -/
theorem image_at (hb : ∀ n q, (V0 (Proc.devRef .tc main_arg1) : FVec Ideal S512x5 .f32) (ix2 n q) = ((b n q : ℝ) : EReal))
    (hr : InRange b) (n : Fin 512) : (res_main_v103 V0 : IVec S512x1x1 32) (ix3 n 0 0) = 0#32 := by
  unfold res_main_v103
  clean_types
  pointwise [hb]
  exact image_word (hr.image n).1 (hr.image n).2

end Cert.Roi.Reference

end
-- ==== Proof.ReferenceValue.lean ====
/-
  What the reference's result array holds at the end: four gathered pixels, weighted and added, times the mark of a sample point
  inside the image.
-/
module

public import proofs.«01_k».proof.Proof.Corner
public import proofs.«01_k».proof.Proof.ReferenceAxis

@[expose] public section

set_option maxRecDepth 16384

noncomputable section

namespace Cert.Roi.Reference

open Idealize.ShloMosaic Idealize.ShloMosaic.TcCoe Idealize.SL.Sem
open Cert.ReferenceIdeal Cert.ReferenceIdeal.Gen Cert.ReferenceIdeal.Value
open Cert.Roi.Pre (InRange)

/-- The index array of one gather, from the image of each box, a pixel row for each bin row and a pixel column for each bin
    column; a negative word counts from the end of its axis. -/
abbrev address (im : IVec S512x1x1 32) (row : IVec S512x14x1 32) (col : IVec S512x1x14 32) : IVec S512x14x14x3 32 :=
  concatenate S512x14x14x3 3
    [⟨S512x14x14x1, broadcastInDim S512x14x14x1 ![0, 1, 2] bcast_S512x14x14_S512x14x14x1_0_1_2
        (broadcastInDim S512x14x14 ![0, 1, 2] bcast_S512x1x1_S512x14x14_0_1_2
          (select (cmpi .slt im (broadcastInDim S512x1x1 ![] bcast_S_S512x1x1 (constantI S_ 32 0#32)))
            (addi im (broadcastInDim S512x1x1 ![] bcast_S_S512x1x1 (constantI S_ 32 4#32))) im))⟩,
      ⟨S512x14x14x1, broadcastInDim S512x14x14x1 ![0, 1, 2] bcast_S512x14x14_S512x14x14x1_0_1_2
        (broadcastInDim S512x14x14 ![0, 1, 2] bcast_S512x14x1_S512x14x14_0_1_2
          (select (cmpi .slt row (broadcastInDim S512x14x1 ![] bcast_S_S512x14x1 (constantI S_ 32 0#32)))
            (addi row (broadcastInDim S512x14x1 ![] bcast_S_S512x14x1 (constantI S_ 32 64#32))) row))⟩,
      ⟨S512x14x14x1, broadcastInDim S512x14x14x1 ![0, 1, 2] bcast_S512x14x14_S512x14x14x1_0_1_2
        (broadcastInDim S512x14x14 ![0, 1, 2] bcast_S512x1x14_S512x14x14_0_1_2
          (select (cmpi .slt col (broadcastInDim S512x1x14 ![] bcast_S_S512x1x14 (constantI S_ 32 0#32)))
            (addi col (broadcastInDim S512x1x14 ![] bcast_S_S512x1x14 (constantI S_ 32 64#32))) col))⟩]
    concatenates_S512x14x14x1_S512x14x14x1_S512x14x14x1_S512x14x14x3_d3

/-- A pixel number of the corner is not negative, so it stays as it is. -/
theorem keep_word : ∀ y : Fin 2, Scalar.select (IntOp.cmpi .slt (BitVec.ofNat 32 y.val) 0#32) (IntOp.addi (BitVec.ofNat 32 y.val) 64#32)
    (BitVec.ofNat 32 y.val) = BitVec.ofNat 32 y.val := by decide

/-- A gather at such an index array reads the corner pixel that the row's word and the column's word name. -/
theorem gather_at (feat : FVec Ideal S4x192x64x64 .f32) {im : IVec S512x1x1 32} {row : IVec S512x14x1 32} {col : IVec S512x1x14 32}
    (n : Fin 512) (r w : Fin 14) (c : Fin 192) (y x : Fin 2) (hi : im (ix3 n 0 0) = 0#32)
    (hy : row (ix3 n r 0) = BitVec.ofNat 32 y.val) (hx : col (ix3 n 0 w) = BitVec.ofNat 32 x.val) :
    Host.gather pick feat (address im row col) (ix4 n r w c) = feat (ix4 0 c (Fin.castLE (by decide) y) (Fin.castLE (by decide) x)) := by
  refine gather_corner feat _ n r w c y x ?_ ?_ ?_
  · pointwise [hi]
    rfl
  · pointwise [hy]
    exact keep_word y
  · pointwise [hx]
    exact keep_word x

variable {V0 : Valuation τ sig (Elt Ideal)} {b : Fin 512 → Fin 5 → ℝ} {f : Fin 192 → Fin 2 → Fin 2 → ℝ}

/-- The first three weighted pixels of a bin, added up. -/
theorem three_at (hf : ∀ (c : Fin 192) (y x : Fin 2), (V0 (Proc.devRef .tc main_arg0) : FVec Ideal S4x192x64x64 .f32)
      (ix4 0 c (Fin.castLE (by decide) y) (Fin.castLE (by decide) x)) = ((f c y x : ℝ) : EReal))
    (hb : ∀ n q, (V0 (Proc.devRef .tc main_arg1) : FVec Ideal S512x5 .f32) (ix2 n q) = ((b n q : ℝ) : EReal)) (hr : InRange b)
    (n : Fin 512) (r w : Fin 14) (c : Fin 192) :
    (res_main_v192 V0 : FVec Ideal S512x14x14x192 .f32) (ix4 n r w c)
      = (((1 - weight (b n 2) (b n 4) r.val) * (1 - weight (b n 1) (b n 3) w.val) * f c 0 0
          + (1 - weight (b n 2) (b n 4) r.val) * weight (b n 1) (b n 3) w.val * f c 0 1
          + weight (b n 2) (b n 4) r.val * (1 - weight (b n 1) (b n 3) w.val) * f c 1 0 : ℝ) : EReal) := by
  have g00 := gather_at (V0 (Proc.devRef .tc main_arg0)) n r w c 0 0 (image_at hb hr n) (row_low_at hb hr n r) (col_low_at hb hr n w)
  have g01 := gather_at (V0 (Proc.devRef .tc main_arg0)) n r w c 0 1 (image_at hb hr n) (row_low_at hb hr n r) (col_high_at hb hr n w)
  have g10 := gather_at (V0 (Proc.devRef .tc main_arg0)) n r w c 1 0 (image_at hb hr n) (row_high_at hb hr n r) (col_low_at hb hr n w)
  rw [hf] at g00 g01 g10
  unfold res_main_v192
  clean_types
  pointwise [g00, g01, g10, row_rest_at hb hr, row_weight_at hb hr, col_rest_at hb hr, col_weight_at hb hr]
  simp only [← EReal.coe_mul, ← EReal.coe_add]

/-- A number from -1 on passes the lower test of the mark. -/
theorem above_word {a : ℝ} (h : -1 ≤ a) : decide (Ideal.ofBits FTy.f32 0xBF800000#32 ≤ (a : EReal)) = true := by
  rw [word_neg_one, decide_eq_true_iff]; exact_mod_cast h

/-- A number below one passes the upper test of the mark, which is against 64. -/
theorem below_word {a : ℝ} (h : a < 1) : decide ((a : EReal) ≤ Ideal.ofBits FTy.f32 0x42800000#32) = true := by
  rw [word_sixtyfour, decide_eq_true_iff]; exact_mod_cast (by linarith : a ≤ 64)

/-- The mark of a sample point inside on both axes, as a float. -/
theorem inside_mark : FloatOps.uitofp (F := Ideal) FTy.f32
    (IntOp.andi (IntOp.andi (BitVec.ofBool true) (BitVec.ofBool true)) (IntOp.andi (BitVec.ofBool true) (BitVec.ofBool true)))
      = ((1 : ℝ) : EReal) := by
  show ((((1#1 : BitVec 1).toNat : ℕ) : ℝ) : EReal) = _
  norm_num

/-- What the reference's result holds: the pooled value of every box, channel and bin. -/
theorem result_value (hf : ∀ (c : Fin 192) (y x : Fin 2), (V0 (Proc.devRef .tc main_arg0) : FVec Ideal S4x192x64x64 .f32)
      (ix4 0 c (Fin.castLE (by decide) y) (Fin.castLE (by decide) x)) = ((f c y x : ℝ) : EReal))
    (hb : ∀ n q, (V0 (Proc.devRef .tc main_arg1) : FVec Ideal S512x5 .f32) (ix2 n q) = ((b n q : ℝ) : EReal)) (hr : InRange b) :
    val5 V0 (no_index (Proc.devRef .tc main_v226))
      = (fun j : S512x192x14x14.Idx => ((pooled f b (j 0) (j 1) (j 2) (j 3) : ℝ) : EReal)) := by
  rw [val5_main_v226]
  funext j
  obtain ⟨n, c, r, w, rfl⟩ : ∃ n c r w, j = ix4 n c r w := ⟨j 0, j 1, j 2, j 3, by ext k; fin_cases k <;> rfl⟩
  have g11 := gather_at (V0 (Proc.devRef .tc main_arg0)) n r w c 1 1 (image_at hb hr n) (row_high_at hb hr n r) (col_high_at hb hr n w)
  rw [hf] at g11
  clean_types
  pointwise [g11, three_at hf hb hr, row_weight_at hb hr, col_weight_at hb hr, row_sample_at hb, col_sample_at hb]
  have left : -(1 / 2) ≤ b n 1 ∧ b n 1 < 3 / 2 := hr.ends n 0
  have top : -(1 / 2) ≤ b n 2 ∧ b n 2 < 3 / 2 := hr.ends n 1
  have right : -(1 / 2) ≤ b n 3 ∧ b n 3 < 3 / 2 := hr.ends n 2
  have bottom : -(1 / 2) ≤ b n 4 ∧ b n 4 < 3 / 2 := hr.ends n 3
  rw [above_word (neg_one_le_sample top.1 bottom.1 r.isLt), below_word (sample_lt_one top.2 bottom.2 r.isLt),
    above_word (neg_one_le_sample left.1 right.1 w.isLt), below_word (sample_lt_one left.2 right.2 w.isLt), inside_mark]
  simp only [← EReal.coe_mul, ← EReal.coe_add]
  unfold pooled blend
  rw [mul_one]

/-- THE RUN: on every device the reference ends with the pooled values in its result and both arguments as they were. -/
theorem run (m : (ℓ : Loc nD τ sig) → Buf (Elt Ideal) ℓ) (ρ : Dev nD → PrngReg)
    (f : Dev nD → Fin 192 → Fin 2 → Fin 2 → ℝ) (b : Dev nD → Fin 512 → Fin 5 → ℝ)
    (hf : ∀ (d : Dev nD) (c : Fin 192) (y x : Fin 2), (m ((d : Thread nD τ).loc main_arg0) : FVec Ideal S4x192x64x64 .f32)
      (ix4 0 c (Fin.castLE (by decide) y) (Fin.castLE (by decide) x)) = ((f d c y x : ℝ) : EReal))
    (hb : ∀ d n q, (m ((d : Thread nD τ).loc main_arg1) : FVec Ideal S512x5 .f32) (ix2 n q) = ((b d n q : ℝ) : EReal))
    (hr : ∀ d, InRange (b d)) :
    θ_run defs (onTc (τ := τ) (main (F := Ideal))) ⟨m, fun _ => 0, ρ⟩ (fun r => ∀ d : Dev nD,
      r.2.mem ((d.tc : Thread nD τ).loc main_v226)
          = (fun j : S512x192x14x14.Idx => ((pooled (f d) (b d) (j 0) (j 1) (j 2) (j 3) : ℝ) : EReal))
      ∧ r.2.mem ((d.tc : Thread nD τ).loc main_arg0) = m ((d.tc : Thread nD τ).loc main_arg0)
      ∧ r.2.mem ((d.tc : Thread nD τ).loc main_arg1) = m ((d.tc : Thread nD τ).loc main_arg1)) :=
  (θ_run defs _ _).mono (fun r h d =>
    ⟨(h d).1.trans ((val5_main_v226 (StableHlo.launchContents m d)).symm.trans
        (result_value (V0 := StableHlo.launchContents m d) (hf d) (hb d) (hr d))), (h d).2⟩)
    (Cert.ReferenceIdeal.Value.run m ρ)

end Cert.Roi.Reference

end
-- ==== Proof.lean ====
/-
  The certificate: the kernel and the reference run to the end and leave their arguments alone, and on boxes near the corner of
  image zero both end with the same pooled values.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Precondition
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.ShloMosaic.TcCoe Idealize.SL.Sem
open Cert.Roi (pooled)

/-- The kernel, at the machine's floats, terminates, keeps its arguments and leaves every counter at zero. -/
theorem kernel_frame : Cert.quiescent_Kernel (hKernel := Cert.Kernel.Gen.facts) := fun m ρ _ => Cert.Kernel.Gen.frame m ρ

/-- So does the kernel over the extended reals. -/
theorem ideal_frame : Cert.quiescent_KernelIdeal (hKernelIdeal := Cert.KernelIdeal.Gen.facts) :=
  fun m ρ _ => Cert.KernelIdeal.Gen.frame m ρ

/-- So does the reference: it declares no counter, and no operation of it writes an argument. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- From memories that agree on the arguments, with the boxes in range and the corner pixels finite, the kernel and the reference
    both end with the pooled value of every box, channel and bin. -/
theorem algebraic : Cert.algebraic_KernelIdeal_ReferenceIdeal_pre_unit_boxes (hKernelIdeal := Cert.KernelIdeal.Gen.facts)
    (hReferenceIdeal := Cert.ReferenceIdeal.Gen.facts) (hPre_unit_boxes := Cert.Roi.Pre.facts) := by
  letI : Cert.Pre_unit_boxes.Facts := Cert.Roi.Pre.facts
  intro m g m' g' hpre hagree
  choose b hb hr using fun d : Dev Cert.KernelIdeal.nD => Cert.Roi.Pre.real_boxes (hpre d).1 (hpre d).2.1
  choose f hf using fun d : Dev Cert.KernelIdeal.nD => Cert.Roi.Pre.real_pixels (hpre d).2.2
  refine ⟨fun d => fun j : Cert.KernelIdeal.S512x192x14x14.Idx => ((pooled (f d) (b d) (j 0) (j 1) (j 2) (j 3) : ℝ) : EReal),
    Cert.Roi.Kernel.run m g f b hf hb, Cert.Roi.Reference.run m' g' f b ?_ ?_ hr⟩
  · intro d c y x
    exact (congrFun (hagree d).1 _).trans (hf d c y x)
  · intro d n q
    exact (congrFun (hagree d).2 _).trans (hb d n q)

/-- All claims of the certificate. -/
theorem claim : Cert.Claim :=
  ⟨Cert.Kernel.Gen.facts, Cert.KernelIdeal.Gen.facts, Cert.ReferenceIdeal.Gen.facts, Cert.Roi.Pre.facts,
    kernel_frame, ideal_frame, fun m ρ _ => Cert.KernelIdeal.Gen.frame m ρ, reference_frame,
    fun m ρ _ => reference_frame m ρ trivial, trivial, algebraic⟩

end Cert.Proof

end
